-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "past" .f32 0x7149F2CA#32 ⊤
  ∧ IdealRules.named_const.Statement Cert.KernelIdeal.κ "underflow" .f32 0x43170000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v5) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_InKernel_InKernelIdeal : Prop :=
  IdealRules.named_const.Statement Cert.InKernelIdeal.κ "scale" .f32 0x3E38AA3B#32 (((8 * (Real.log 2))⁻¹ : ℝ) : EReal)

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)) →
    ∃ (v0 : (c : Dev Cert.InKernelIdeal.nD) → Buf (Elt Ideal) ((c.tc : Thread Cert.InKernelIdeal.nD Cert.InKernelIdeal.τ).loc Cert.InKernelIdeal.main_v8_0)) (v1 : (c : Dev Cert.InKernelIdeal.nD) → Buf (Elt Ideal) ((c.tc : Thread Cert.InKernelIdeal.nD Cert.InKernelIdeal.τ).loc Cert.InKernelIdeal.main_v8_1)) (v2 : (c : Dev Cert.InKernelIdeal.nD) → Buf (Elt Ideal) ((c.tc : Thread Cert.InKernelIdeal.nD Cert.InKernelIdeal.τ).loc Cert.InKernelIdeal.main_v8_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v8_0) = v0 c
          ∧ r.2.mem ((c.tc : Thread Cert.InKernelIdeal.nD Cert.InKernelIdeal.τ).loc Cert.InKernelIdeal.main_v8_1) = v1 c
          ∧ r.2.mem ((c.tc : Thread Cert.InKernelIdeal.nD Cert.InKernelIdeal.τ).loc Cert.InKernelIdeal.main_v8_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v6) = v0 c
          ∧ r.2.mem ((c.tc : Thread Cert.InReferenceIdeal.nD Cert.InReferenceIdeal.τ).loc Cert.InReferenceIdeal.main_v43) = v1 c
          ∧ r.2.mem ((c.tc : Thread Cert.InReferenceIdeal.nD Cert.InReferenceIdeal.τ).loc Cert.InReferenceIdeal.main_v44) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts),
    quiescent_Kernel (hKernel := hKernel)
    ∧ quiescent_KernelIdeal (hKernelIdeal := hKernelIdeal)
    ∧ quiescent_ReferenceIdeal (hReferenceIdeal := hReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ preserves_Kernel_KernelIdeal
    ∧ algebraic_KernelIdeal_ReferenceIdeal (hKernelIdeal := hKernelIdeal) (hReferenceIdeal := hReferenceIdeal)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
-- ==== Kernel.lean ====
abbrev S4x8192x1024 : Shape := ⟨3, ![4, 8192, 1024]⟩
abbrev S_ : Shape := ⟨0, ![]⟩
abbrev S4x8192x3072 : Shape := ⟨3, ![4, 8192, 3072]⟩
abbrev S4x32x256x8x128 : Shape := ⟨5, ![4, 32, 256, 8, 128]⟩
abbrev S4x8x32x128x256 : Shape := ⟨5, ![4, 8, 32, 128, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x256x512 : Shape := ⟨3, ![1, 256, 512]⟩
abbrev S1x8192x512 : Shape := ⟨3, ![1, 8192, 512]⟩
abbrev S1x4x32x128x256 : Shape := ⟨5, ![1, 4, 32, 128, 256]⟩
abbrev S2048x128 : Shape := ⟨2, ![2048, 128]⟩
abbrev S1x2048 : Shape := ⟨2, ![1, 2048]⟩
abbrev S128x2048 : Shape := ⟨2, ![128, 2048]⟩
abbrev S256x128 : Shape := ⟨2, ![256, 128]⟩
abbrev S1x256x128 : Shape := ⟨3, ![1, 256, 128]⟩
abbrev S512x128 : Shape := ⟨2, ![512, 128]⟩
abbrev S256x512 : Shape := ⟨2, ![256, 512]⟩
abbrev S256x2048 : Shape := ⟨2, ![256, 2048]⟩
abbrev S128x512 : Shape := ⟨2, ![128, 512]⟩
abbrev S1x1x1x128x256 : Shape := ⟨5, ![1, 1, 1, 128, 256]⟩
abbrev S128x256 : Shape := ⟨2, ![128, 256]⟩
abbrev S1x1x2048 : Shape := ⟨3, ![1, 1, 2048]⟩
abbrev S1 : Shape := ⟨1, ![1]⟩
abbrev S1x1x1 : Shape := ⟨3, ![1, 1, 1]⟩

abbrev nBuf : Space → Nat
  | .hbm => 32
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x3072, .f32⟩
  | .hbm, ⟨20, _⟩ => ⟨S4x8192x3072, .bf16⟩
  | .hbm, ⟨21, _⟩ => ⟨S4x32x256x8x128, .f32⟩
  | .hbm, ⟨22, _⟩ => ⟨S4x8x32x128x256, .f32⟩
  | .hbm, ⟨23, _⟩ => ⟨S4x8x32x128x256, .bf16⟩
  | .hbm, ⟨24, _⟩ => ⟨S256, .i32⟩
  | .hbm, ⟨25, _⟩ => ⟨S1x256, .i32⟩
  | .hbm, ⟨26, _⟩ => ⟨S256x1, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .bf16⟩
  | .hbm, ⟨31, _⟩ => ⟨S4x8192x1024, .bf16⟩
  | .local _ .vmem, ⟨0, _⟩ => ⟨S256x256, .bf16⟩
  | .local _ .vmem, ⟨1, _⟩ => ⟨S1x256x512, .bf16⟩
  | .local _ .vmem, ⟨2, _⟩ => ⟨S1x256x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x4x32x128x256, .bf16⟩
  | .local _ .vmem, ⟨6, _⟩ => ⟨S1x4x32x128x256, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S2048x128, .bf16⟩
  | .local _ .vmem, ⟨12, _⟩ => ⟨S1x2048, .f32⟩
  | .local _ .vmem, ⟨13, _⟩ => ⟨S128x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 2, 32], ![false, false, false]⟩

def k0_mult1 (i : grid0.Coords) : BitVec 32 :=
  let arg2 : BitVec 32 := BitVec.ofNat 32 (i 2).val
  let c256_i32 : BitVec 32 := 256#32
  let v69 : BitVec 32 := Scalar.muli arg2 c256_i32
  v69
def k0_off1 (i : grid0.Coords) : Fin 3 → Nat :=
  let c0_33 : Index := 0#32
  let arg2 : BitVec 32 := BitVec.ofNat 32 (i 2).val
  let c256_i32 : BitVec 32 := 256#32
  let v69 : BitVec 32 := Scalar.muli arg2 c256_i32
  let v70 : BitVec 32 := v69
  let v71 : Index := Scalar.indexCast v70
  let c0_34 : Index := 0#32
  ![0, v71.toNat, 0]
def k0_off2 (i : grid0.Coords) : Fin 3 → Nat :=
  let c0_38 : Index := 0#32
  let arg2 : BitVec 32 := BitVec.ofNat 32 (i 2).val
  let c256_i32 : BitVec 32 := 256#32
  let v69 : BitVec 32 := Scalar.muli arg2 c256_i32
  let v70 : BitVec 32 := v69
  let v76 : Index := Scalar.indexCast v70
  let c128_39 : Index := 128#32
  ![0, v76.toNat, 128]
def k0_off3 (i : grid0.Coords) : Fin 3 → Nat :=
  let c0_43 : Index := 0#32
  let arg2 : BitVec 32 := BitVec.ofNat 32 (i 2).val
  let c256_i32 : BitVec 32 := 256#32
  let v69 : BitVec 32 := Scalar.muli arg2 c256_i32
  let v70 : BitVec 32 := v69
  let v81 : Index := Scalar.indexCast v70
  let c256_44 : Index := 256#32
  ![0, v81.toNat, 256]
def k0_off4 (i : grid0.Coords) : Fin 3 → Nat :=
  let c0_48 : Index := 0#32
  let arg2 : BitVec 32 := BitVec.ofNat 32 (i 2).val
  let c256_i32 : BitVec 32 := 256#32
  let v69 : BitVec 32 := Scalar.muli arg2 c256_i32
  let v70 : BitVec 32 := v69
  let v86 : Index := Scalar.indexCast v70
  let c384_49 : Index := 384#32
  ![0, v86.toNat, 384]
def k0_mult2 (i : grid0.Coords) : BitVec 32 :=
  let arg2 : BitVec 32 := BitVec.ofNat 32 (i 2).val
  let c1_i32 : BitVec 32 := 1#32
  let v67 : BitVec 32 := Scalar.subi arg2 c1_i32
  let c0_i32 : BitVec 32 := 0#32
  let v68 : BitVec 32 := Scalar.maxsi v67 c0_i32
  let c256_i32_59 : BitVec 32 := 256#32
  let v113 : BitVec 32 := Scalar.muli v68 c256_i32_59
  v113
def k0_off5 (i : grid0.Coords) : Fin 3 → Nat :=
  let c0_60 : Index := 0#32
  let arg2 : BitVec 32 := BitVec.ofNat 32 (i 2).val
  let c1_i32 : BitVec 32 := 1#32
  let v67 : BitVec 32 := Scalar.subi arg2 c1_i32
  let c0_i32 : BitVec 32 := 0#32
  let v68 : BitVec 32 := Scalar.maxsi v67 c0_i32
  let c256_i32_59 : BitVec 32 := 256#32
  let v113 : BitVec 32 := Scalar.muli v68 c256_i32_59
  let v114 : BitVec 32 := v113
  let v115 : Index := Scalar.indexCast v114
  let c0_61 : Index := 0#32
  ![0, v115.toNat, 0]
def k0_off6 (i : grid0.Coords) : Fin 3 → Nat :=
  let c0_65 : Index := 0#32
  let arg2 : BitVec 32 := BitVec.ofNat 32 (i 2).val
  let c1_i32 : BitVec 32 := 1#32
  let v67 : BitVec 32 := Scalar.subi arg2 c1_i32
  let c0_i32 : BitVec 32 := 0#32
  let v68 : BitVec 32 := Scalar.maxsi v67 c0_i32
  let c256_i32_59 : BitVec 32 := 256#32
  let v113 : BitVec 32 := Scalar.muli v68 c256_i32_59
  let v114 : BitVec 32 := v113
  let v120 : Index := Scalar.indexCast v114
  let c128_66 : Index := 128#32
  ![0, v120.toNat, 128]
def k0_off7 (i : grid0.Coords) : Fin 3 → Nat :=
  let c0_70 : Index := 0#32
  let arg2 : BitVec 32 := BitVec.ofNat 32 (i 2).val
  let c1_i32 : BitVec 32 := 1#32
  let v67 : BitVec 32 := Scalar.subi arg2 c1_i32
  let c0_i32 : BitVec 32 := 0#32
  let v68 : BitVec 32 := Scalar.maxsi v67 c0_i32
  let c256_i32_59 : BitVec 32 := 256#32
  let v113 : BitVec 32 := Scalar.muli v68 c256_i32_59
  let v114 : BitVec 32 := v113
  let v125 : Index := Scalar.indexCast v114
  let c256_71 : Index := 256#32
  ![0, v125.toNat, 256]
def k0_off8 (i : grid0.Coords) : Fin 3 → Nat :=
  let c0_75 : Index := 0#32
  let arg2 : BitVec 32 := BitVec.ofNat 32 (i 2).val
  let c1_i32 : BitVec 32 := 1#32
  let v67 : BitVec 32 := Scalar.subi arg2 c1_i32
  let c0_i32 : BitVec 32 := 0#32
  let v68 : BitVec 32 := Scalar.maxsi v67 c0_i32
  let c256_i32_59 : BitVec 32 := 256#32
  let v113 : BitVec 32 := Scalar.muli v68 c256_i32_59
  let v114 : BitVec 32 := v113
  let v130 : Index := Scalar.indexCast v114
  let c384_76 : Index := 384#32
  ![0, v130.toNat, 384]
def k0_off9 (i : grid0.Coords) : Fin 5 → Nat :=
  let c0_88 : Index := 0#32
  let c0_89 : Index := 0#32
  let arg2 : BitVec 32 := BitVec.ofNat 32 (i 2).val
  let v157 : Index := Scalar.indexCast arg2
  let c0_90 : Index := 0#32
  let c0_91 : Index := 0#32
  ![0, 0, v157.toNat, 0, 0]
def k0_off10 (i : grid0.Coords) : Fin 5 → Nat :=
  let c0_97 : Index := 0#32
  let c1 : Index := 1#32
  let arg2 : BitVec 32 := BitVec.ofNat 32 (i 2).val
  let v167 : Index := Scalar.indexCast arg2
  let c0_98 : Index := 0#32
  let c0_99 : Index := 0#32
  ![0, 1, v167.toNat, 0, 0]
def k0_off11 (i : grid0.Coords) : Fin 5 → Nat :=
  let c0_105 : Index := 0#32
  let c2 : Index := 2#32
  let arg2 : BitVec 32 := BitVec.ofNat 32 (i 2).val
  let v177 : Index := Scalar.indexCast arg2
  let c0_106 : Index := 0#32
  let c0_107 : Index := 0#32
  ![0, 2, v177.toNat, 0, 0]
def k0_off12 (i : grid0.Coords) : Fin 5 → Nat :=
  let c0_113 : Index := 0#32
  let c3 : Index := 3#32
  let arg2 : BitVec 32 := BitVec.ofNat 32 (i 2).val
  let v187 : Index := Scalar.indexCast arg2
  let c0_114 : Index := 0#32
  let c0_115 : Index := 0#32
  ![0, 3, v187.toNat, 0, 0]
def k0_off13 (i : grid0.Coords) : Fin 5 → Nat :=
  let c0_124 : Index := 0#32
  let c0_125 : Index := 0#32
  let arg2 : BitVec 32 := BitVec.ofNat 32 (i 2).val
  let c1_i32 : BitVec 32 := 1#32
  let v67 : BitVec 32 := Scalar.subi arg2 c1_i32
  let c0_i32 : BitVec 32 := 0#32
  let v68 : BitVec 32 := Scalar.maxsi v67 c0_i32
  let v208 : Index := Scalar.indexCast v68
  let c0_126 : Index := 0#32
  let c0_127 : Index := 0#32
  ![0, 0, v208.toNat, 0, 0]
def k0_off14 (i : grid0.Coords) : Fin 5 → Nat :=
  let c0_133 : Index := 0#32
  let c1_134 : Index := 1#32
  let arg2 : BitVec 32 := BitVec.ofNat 32 (i 2).val
  let c1_i32 : BitVec 32 := 1#32
  let v67 : BitVec 32 := Scalar.subi arg2 c1_i32
  let c0_i32 : BitVec 32 := 0#32
  let v68 : BitVec 32 := Scalar.maxsi v67 c0_i32
  let v218 : Index := Scalar.indexCast v68
  let c0_135 : Index := 0#32
  let c0_136 : Index := 0#32
  ![0, 1, v218.toNat, 0, 0]
def k0_off15 (i : grid0.Coords) : Fin 5 → Nat :=
  let c0_142 : Index := 0#32
  let c2_143 : Index := 2#32
  let arg2 : BitVec 32 := BitVec.ofNat 32 (i 2).val
  let c1_i32 : BitVec 32 := 1#32
  let v67 : BitVec 32 := Scalar.subi arg2 c1_i32
  let c0_i32 : BitVec 32 := 0#32
  let v68 : BitVec 32 := Scalar.maxsi v67 c0_i32
  let v228 : Index := Scalar.indexCast v68
  let c0_144 : Index := 0#32
  let c0_145 : Index := 0#32
  ![0, 2, v228.toNat, 0, 0]
def k0_off16 (i : grid0.Coords) : Fin 5 → Nat :=
  let c0_151 : Index := 0#32
  let c3_152 : Index := 3#32
  let arg2 : BitVec 32 := BitVec.ofNat 32 (i 2).val
  let c1_i32 : BitVec 32 := 1#32
  let v67 : BitVec 32 := Scalar.subi arg2 c1_i32
  let c0_i32 : BitVec 32 := 0#32
  let v68 : BitVec 32 := Scalar.maxsi v67 c0_i32
  let v238 : Index := Scalar.indexCast v68
  let c0_153 : Index := 0#32
  let c0_154 : Index := 0#32
  ![0, 3, v238.toNat, 0, 0]
def k0_mult3 (i : grid0.Coords) (arg12 : BitVec 32) : BitVec 32 :=
  let arg2 : BitVec 32 := BitVec.ofNat 32 (i 2).val
  let c2_i32 : BitVec 32 := 2#32
  let v309 : BitVec 32 := Scalar.subi arg2 c2_i32
  let v310 : BitVec 32 := Scalar.subi v309 arg12
  let c256_i32_204 : BitVec 32 := 256#32
  let v311 : BitVec 32 := Scalar.muli v310 c256_i32_204
  v311

def k0_off17 (i : grid0.Coords) (arg12 : BitVec 32) : Fin 3 → Nat :=
  let c0_205 : Index := 0#32
  let arg2 : BitVec 32 := BitVec.ofNat 32 (i 2).val
  let c2_i32 : BitVec 32 := 2#32
  let v309 : BitVec 32 := Scalar.subi arg2 c2_i32
  let v310 : BitVec 32 := Scalar.subi v309 arg12
  let c256_i32_204 : BitVec 32 := 256#32
  let v311 : BitVec 32 := Scalar.muli v310 c256_i32_204
  let v312 : BitVec 32 := v311
  let v313 : Index := Scalar.indexCast v312
  let c0_206 : Index := 0#32
  ![0, v313.toNat, 0]
def k0_off18 (i : grid0.Coords) (arg12 : BitVec 32) : Fin 3 → Nat :=
  let c0_210 : Index := 0#32
  let arg2 : BitVec 32 := BitVec.ofNat 32 (i 2).val
  let c2_i32 : BitVec 32 := 2#32
  let v309 : BitVec 32 := Scalar.subi arg2 c2_i32
  let v310 : BitVec 32 := Scalar.subi v309 arg12
  let c256_i32_204 : BitVec 32 := 256#32
  let v311 : BitVec 32 := Scalar.muli v310 c256_i32_204
  let v312 : BitVec 32 := v311
  let v318 : Index := Scalar.indexCast v312
  let c128_211 : Index := 128#32
  ![0, v318.toNat, 128]
def k0_off19 (i : grid0.Coords) (arg12 : BitVec 32) : Fin 3 → Nat :=
  let c0_215 : Index := 0#32
  let arg2 : BitVec 32 := BitVec.ofNat 32 (i 2).val
  let c2_i32 : BitVec 32 := 2#32
  let v309 : BitVec 32 := Scalar.subi arg2 c2_i32
  let v310 : BitVec 32 := Scalar.subi v309 arg12
  let c256_i32_204 : BitVec 32 := 256#32
  let v311 : BitVec 32 := Scalar.muli v310 c256_i32_204
  let v312 : BitVec 32 := v311
  let v323 : Index := Scalar.indexCast v312
  let c256_216 : Index := 256#32
  ![0, v323.toNat, 256]
def k0_off20 (i : grid0.Coords) (arg12 : BitVec 32) : Fin 3 → Nat :=
  let c0_220 : Index := 0#32
  let arg2 : BitVec 32 := BitVec.ofNat 32 (i 2).val
  let c2_i32 : BitVec 32 := 2#32
  let v309 : BitVec 32 := Scalar.subi arg2 c2_i32
  let v310 : BitVec 32 := Scalar.subi v309 arg12
  let c256_i32_204 : BitVec 32 := 256#32
  let v311 : BitVec 32 := Scalar.muli v310 c256_i32_204
  let v312 : BitVec 32 := v311
  let v328 : Index := Scalar.indexCast v312
  let c384_221 : Index := 384#32
  ![0, v328.toNat, 384]
def k0_off21 (i : grid0.Coords) (arg12 : BitVec 32) : Fin 5 → Nat :=
  let c0_234 : Index := 0#32
  let c0_235 : Index := 0#32
  let arg2 : BitVec 32 := BitVec.ofNat 32 (i 2).val
  let c2_i32 : BitVec 32 := 2#32
  let v309 : BitVec 32 := Scalar.subi arg2 c2_i32
  let v310 : BitVec 32 := Scalar.subi v309 arg12
  let v355 : Index := Scalar.indexCast v310
  let c0_236 : Index := 0#32
  let c0_237 : Index := 0#32
  ![0, 0, v355.toNat, 0, 0]
def k0_off22 (i : grid0.Coords) (arg12 : BitVec 32) : Fin 5 → Nat :=
  let c0_243 : Index := 0#32
  let c1_244 : Index := 1#32
  let arg2 : BitVec 32 := BitVec.ofNat 32 (i 2).val
  let c2_i32 : BitVec 32 := 2#32
  let v309 : BitVec 32 := Scalar.subi arg2 c2_i32
  let v310 : BitVec 32 := Scalar.subi v309 arg12
  let v365 : Index := Scalar.indexCast v310
  let c0_245 : Index := 0#32
  let c0_246 : Index := 0#32
  ![0, 1, v365.toNat, 0, 0]
def k0_off23 (i : grid0.Coords) (arg12 : BitVec 32) : Fin 5 → Nat :=
  let c0_252 : Index := 0#32
  let c2_253 : Index := 2#32
  let arg2 : BitVec 32 := BitVec.ofNat 32 (i 2).val
  let c2_i32 : BitVec 32 := 2#32
  let v309 : BitVec 32 := Scalar.subi arg2 c2_i32
  let v310 : BitVec 32 := Scalar.subi v309 arg12
  let v375 : Index := Scalar.indexCast v310
  let c0_254 : Index := 0#32
  let c0_255 : Index := 0#32
  ![0, 2, v375.toNat, 0, 0]
def k0_off24 (i : grid0.Coords) (arg12 : BitVec 32) : Fin 5 → Nat :=
  let c0_261 : Index := 0#32
  let c3_262 : Index := 3#32
  let arg2 : BitVec 32 := BitVec.ofNat 32 (i 2).val
  let c2_i32 : BitVec 32 := 2#32
  let v309 : BitVec 32 := Scalar.subi arg2 c2_i32
  let v310 : BitVec 32 := Scalar.subi v309 arg12
  let v385 : Index := Scalar.indexCast v310
  let c0_263 : Index := 0#32
  let c0_264 : Index := 0#32
  ![0, 3, v385.toNat, 0, 0]

def k0_chk1 (i : grid0.Coords) (arg12 : BitVec 32) : Prop :=
  (256 ∣ (k0_mult3 i arg12).toNat) ∧
  (∀ a, (k0_off17 i arg12) a + S1x256x128.size a ≤ S1x8192x512.size a) ∧
  (∀ a, (k0_off18 i arg12) a + S1x256x128.size a ≤ S1x8192x512.size a) ∧
  (∀ a, (k0_off19 i arg12) a + S1x256x128.size a ≤ S1x8192x512.size a) ∧
  (∀ a, (k0_off20 i arg12) a + S1x256x128.size a ≤ S1x8192x512.size a) ∧
  (∀ a, (k0_off21 i arg12) a + S1x1x1x128x256.size a ≤ S1x4x32x128x256.size a) ∧
  (∀ a, (k0_off22 i arg12) a + S1x1x1x128x256.size a ≤ S1x4x32x128x256.size a) ∧
  (∀ a, (k0_off23 i arg12) a + S1x1x1x128x256.size a ≤ S1x4x32x128x256.size a) ∧
  (∀ a, (k0_off24 i arg12) a + S1x1x1x128x256.size a ≤ S1x4x32x128x256.size a)
theorem k0_mult3_dvd : ∀ (i : grid0.Coords) (arg12 : BitVec 32) (k0_hw1 : k0_chk1 i arg12), 256 ∣ (k0_mult3 i arg12).toNat := fun i arg12 k0_hw1 => k0_hw1.1
theorem k0_off17_inb : ∀ (i : grid0.Coords) (arg12 : BitVec 32) (k0_hw1 : k0_chk1 i arg12), ∀ a, (k0_off17 i arg12) a + S1x256x128.size a ≤ S1x8192x512.size a := fun i arg12 k0_hw1 => k0_hw1.2.1
theorem k0_off18_inb : ∀ (i : grid0.Coords) (arg12 : BitVec 32) (k0_hw1 : k0_chk1 i arg12), ∀ a, (k0_off18 i arg12) a + S1x256x128.size a ≤ S1x8192x512.size a := fun i arg12 k0_hw1 => k0_hw1.2.2.1
theorem k0_off19_inb : ∀ (i : grid0.Coords) (arg12 : BitVec 32) (k0_hw1 : k0_chk1 i arg12), ∀ a, (k0_off19 i arg12) a + S1x256x128.size a ≤ S1x8192x512.size a := fun i arg12 k0_hw1 => k0_hw1.2.2.2.1
theorem k0_off20_inb : ∀ (i : grid0.Coords) (arg12 : BitVec 32) (k0_hw1 : k0_chk1 i arg12), ∀ a, (k0_off20 i arg12) a + S1x256x128.size a ≤ S1x8192x512.size a := fun i arg12 k0_hw1 => k0_hw1.2.2.2.2.1
theorem k0_off21_inb : ∀ (i : grid0.Coords) (arg12 : BitVec 32) (k0_hw1 : k0_chk1 i arg12), ∀ a, (k0_off21 i arg12) a + S1x1x1x128x256.size a ≤ S1x4x32x128x256.size a := fun i arg12 k0_hw1 => k0_hw1.2.2.2.2.2.1
theorem k0_off22_inb : ∀ (i : grid0.Coords) (arg12 : BitVec 32) (k0_hw1 : k0_chk1 i arg12), ∀ a, (k0_off22 i arg12) a + S1x1x1x128x256.size a ≤ S1x4x32x128x256.size a := fun i arg12 k0_hw1 => k0_hw1.2.2.2.2.2.2.1
theorem k0_off23_inb : ∀ (i : grid0.Coords) (arg12 : BitVec 32) (k0_hw1 : k0_chk1 i arg12), ∀ a, (k0_off23 i arg12) a + S1x1x1x128x256.size a ≤ S1x4x32x128x256.size a := fun i arg12 k0_hw1 => k0_hw1.2.2.2.2.2.2.2.1
theorem k0_off24_inb : ∀ (i : grid0.Coords) (arg12 : BitVec 32) (k0_hw1 : k0_chk1 i arg12), ∀ a, (k0_off24 i arg12) a + S1x1x1x128x256.size a ≤ S1x4x32x128x256.size a := fun i arg12 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "past" => some ⊤
  | "underflow" => some ⊤
  | _ => none
-- ==== ReferenceIdeal.lean ====
abbrev S4x8192x1024 : Shape := ⟨3, ![4, 8192, 1024]⟩
abbrev S4x8192x16x64 : Shape := ⟨4, ![4, 8192, 16, 64]⟩
abbrev S4x16x8192x8192 : Shape := ⟨4, ![4, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x16x64x8192 : Shape := ⟨4, ![4, 16, 64, 8192]⟩

abbrev nBuf : Space → Nat
  | .hbm => 80
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S4x8192x16x64, .f32⟩
  | .hbm, ⟨5, _⟩ => ⟨S4x8192x16x64, .f32⟩
  | .hbm, ⟨6, _⟩ => ⟨S4x16x8192x8192, .f32⟩
  | .hbm, ⟨7, _⟩ => ⟨S_, .f32⟩
  | .hbm, ⟨8, _⟩ => ⟨S4x16x8192x8192, .f32⟩
  | .hbm, ⟨9, _⟩ => ⟨S4x16x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S4x16x8192x8192, .f32⟩
  | .hbm, ⟨17, _⟩ => ⟨S4x16x8192x8192, .f32⟩
  | .hbm, ⟨18, _⟩ => ⟨S_, .f32⟩
  | .hbm, ⟨19, _⟩ => ⟨S4x16x8192x8192, .f32⟩
  | .hbm, ⟨20, _⟩ => ⟨S4x16x8192x8192, .f32⟩
  | .hbm, ⟨21, _⟩ => ⟨S4x16x8192x8192, .f32⟩
  | .hbm, ⟨22, _⟩ => ⟨S4x16x8192x8192, .f32⟩
  | .hbm, ⟨23, _⟩ => ⟨S4x16x8192x8192, .i1⟩
  | .hbm, ⟨24, _⟩ => ⟨S4x16x8192x8192, .f32⟩
  | .hbm, ⟨25, _⟩ => ⟨S4x16x8192x8192, .f32⟩
  | .hbm, ⟨26, _⟩ => ⟨S4x16x8192x8192, .f32⟩
  | .hbm, ⟨27, _⟩ => ⟨S4x16x8192x8192, .f32⟩
  | .hbm, ⟨28, _⟩ => ⟨S4x16x8192x8192, .f32⟩
  | .hbm, ⟨29, _⟩ => ⟨S4x16x8192x8192, .f32⟩
  | .hbm, ⟨30, _⟩ => ⟨S4x16x8192x8192, .f32⟩
  | .hbm, ⟨31, _⟩ => ⟨S4x16x8192x8192, .f32⟩
  | .hbm, ⟨32, _⟩ => ⟨S4x16x8192x8192, .f32⟩
  | .hbm, ⟨33, _⟩ => ⟨S_, .f32⟩
  | .hbm, ⟨34, _⟩ => ⟨S_, .f32⟩
  | .hbm, ⟨35, _⟩ => ⟨S4x16x8192x8192, .i1⟩
  | .hbm, ⟨36, _⟩ => ⟨S4x16x8192x8192, .f32⟩
  | .hbm, ⟨37, _⟩ => ⟨S4x16x8192x8192, .f32⟩
  | .hbm, ⟨38, _⟩ => ⟨S_, .f32⟩
  | .hbm, ⟨39, _⟩ => ⟨S_, .f32⟩
  | .hbm, ⟨40, _⟩ => ⟨S4x16x8192x8192, .f32⟩
  | .hbm, ⟨41, _⟩ => ⟨S4x16x8192x8192, .f32⟩
  | .hbm, ⟨42, _⟩ => ⟨S4x16x8192x8192, .f32⟩
  | .hbm, ⟨43, _⟩ => ⟨S_, .f32⟩
  | .hbm, ⟨44, _⟩ => ⟨S4x16x8192x8192, .f32⟩
  | .hbm, ⟨45, _⟩ => ⟨S4x16x8192x8192, .f32⟩
  | .hbm, ⟨46, _⟩ => ⟨S4x16x8192x8192, .f32⟩
  | .hbm, ⟨47, _⟩ => ⟨S4x16x8192x8192, .f32⟩
  | .hbm, ⟨48, _⟩ => ⟨S4x16x8192x8192, .i1⟩
  | .hbm, ⟨49, _⟩ => ⟨S4x16x8192x8192, .f32⟩
  | .hbm, ⟨50, _⟩ => ⟨S4x16x8192x8192, .f32⟩
  | .hbm, ⟨51, _⟩ => ⟨S4x16x8192x8192, .f32⟩
  | .hbm, ⟨52, _⟩ => ⟨S4x16x8192x8192, .f32⟩
  | .hbm, ⟨53, _⟩ => ⟨S4x16x8192x8192, .f32⟩
  | .hbm, ⟨54, _⟩ => ⟨S4x16x8192x8192, .f32⟩
  | .hbm, ⟨55, _⟩ => ⟨S4x16x8192x8192, .f32⟩
  | .hbm, ⟨56, _⟩ => ⟨S4x16x8192x8192, .f32⟩
  | .hbm, ⟨57, _⟩ => ⟨S4x16x8192x8192, .f32⟩
  | .hbm, ⟨58, _⟩ => ⟨S4x16x8192x8192, .f32⟩
  | .hbm, ⟨59, _⟩ => ⟨S4x16x8192x8192, .f32⟩
  | .hbm, ⟨60, _⟩ => ⟨S_, .f32⟩
  | .hbm, ⟨61, _⟩ => ⟨S_, .f32⟩
  | .hbm, ⟨62, _⟩ => ⟨S4x16x8192x8192, .i1⟩
  | .hbm, ⟨63, _⟩ => ⟨S4x16x8192x8192, .f32⟩
  | .hbm, ⟨64, _⟩ => ⟨S4x16x8192x8192, .f32⟩
  | .hbm, ⟨65, _⟩ => ⟨S4x8192x16x64, .f32⟩
  | .hbm, ⟨66, _⟩ => ⟨S4x16x64x8192, .f32⟩
  | .hbm, ⟨67, _⟩ => ⟨S4x8192x16x64, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S_, .f32⟩
  | .hbm, ⟨72, _⟩ => ⟨S4x8192x1024, .f32⟩
  | .hbm, ⟨73, _⟩ => ⟨S4x8192x1024, .f32⟩
  | .hbm, ⟨74, _⟩ => ⟨S_, .f32⟩
  | .hbm, ⟨75, _⟩ => ⟨S4x8192x1024, .f32⟩
  | .hbm, ⟨76, _⟩ => ⟨S4x8192x1024, .f32⟩
  | .hbm, ⟨77, _⟩ => ⟨S4x8192x1024, .f32⟩
  | .hbm, ⟨78, _⟩ => ⟨S4x8192x1024, .f32⟩
  | .hbm, ⟨79, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v13 : Ref sig .tc := ⟨.hbm, 37, rfl⟩
abbrev main_call2_cst : Ref sig .tc := ⟨.hbm, 38, rfl⟩
abbrev main_call2_v0 : Ref sig .tc := ⟨.hbm, 39, rfl⟩
abbrev main_v14 : Ref sig .tc := ⟨.hbm, 40, rfl⟩
abbrev main_v15 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_call5_v0 : Ref sig .tc := ⟨.hbm, 69, rfl⟩
abbrev main_call5_v1 : Ref sig .tc := ⟨.hbm, 70, rfl⟩
abbrev main_call5_cst : Ref sig .tc := ⟨.hbm, 71, rfl⟩
abbrev main_call5_v2 : Ref sig .tc := ⟨.hbm, 72, rfl⟩
abbrev main_call5_v3 : Ref sig .tc := ⟨.hbm, 73, rfl⟩
abbrev main_call5_cst_0 : Ref sig .tc := ⟨.hbm, 74, rfl⟩
abbrev main_call5_v4 : Ref sig .tc := ⟨.hbm, 75, rfl⟩
abbrev main_call5_v5 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩

abbrev nD : Nat := 1
abbrev τ : Topo := Topo.v7x

variable {F : FTy → Type} [FloatOps F]
-- ==== OutKernel.lean ====
abbrev S4x8192x1024 : Shape := ⟨3, ![4, 8192, 1024]⟩
abbrev S1024x1024 : Shape := ⟨2, ![1024, 1024]⟩
abbrev S3x4x1x1024 : Shape := ⟨4, ![3, 4, 1, 1024]⟩
abbrev S1x1024x1024 : Shape := ⟨3, ![1, 1024, 1024]⟩
abbrev S3x1x1x1024 : Shape := ⟨4, ![3, 1, 1, 1024]⟩
abbrev S1x1x1x1024 : Shape := ⟨4, ![1, 1, 1, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S4x8192x1024, .f32⟩
  | .hbm, ⟨3, _⟩ => ⟨S3x4x1x1024, .f32⟩
  | .hbm, ⟨4, _⟩ => ⟨S4x8192x1024, .bf16⟩
  | .hbm, ⟨5, _⟩ => ⟨S1024x1024, .bf16⟩
  | .hbm, ⟨6, _⟩ => ⟨S4x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S3x1x1x1024, .f32⟩
  | .local _ .vmem, ⟨6, _⟩ => ⟨S3x1x1x1024, .f32⟩
  | .local _ .vmem, ⟨7, _⟩ => ⟨S1x1024x1024, .f32⟩
  | .local _ .vmem, ⟨8, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S4x8192x1024 : Shape := ⟨3, ![4, 8192, 1024]⟩
abbrev S1024x1024 : Shape := ⟨2, ![1024, 1024]⟩
abbrev S3x4x1x1024 : Shape := ⟨4, ![3, 4, 1, 1024]⟩
abbrev S1x4x1x1024 : Shape := ⟨4, ![1, 4, 1, 1024]⟩
abbrev S4x1x1024 : Shape := ⟨3, ![4, 1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S4x8192x1024, .f32⟩
  | .hbm, ⟨3, _⟩ => ⟨S3x4x1x1024, .f32⟩
  | .hbm, ⟨4, _⟩ => ⟨S1x4x1x1024, .f32⟩
  | .hbm, ⟨5, _⟩ => ⟨S4x1x1024, .f32⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InKernel.lean ====
abbrev S4x8192x512 : Shape := ⟨3, ![4, 8192, 512]⟩
abbrev S1024x1024 : Shape := ⟨2, ![1024, 1024]⟩
abbrev S3x4x1x1024 : Shape := ⟨4, ![3, 4, 1, 1024]⟩
abbrev S4x8192x1024 : Shape := ⟨3, ![4, 8192, 1024]⟩
abbrev S1024 : Shape := ⟨1, ![1024]⟩
abbrev S1024x4096 : Shape := ⟨2, ![1024, 4096]⟩
abbrev S1x1024 : Shape := ⟨2, ![1, 1024]⟩
abbrev S4x8192x3072 : Shape := ⟨3, ![4, 8192, 3072]⟩
abbrev S4x8x32x128x256 : Shape := ⟨5, ![4, 8, 32, 128, 256]⟩
abbrev S1x512x512 : Shape := ⟨3, ![1, 512, 512]⟩
abbrev S3x1x1x1024 : Shape := ⟨4, ![3, 1, 1, 1024]⟩
abbrev S1x512x1024 : Shape := ⟨3, ![1, 512, 1024]⟩
abbrev S1x512x3072 : Shape := ⟨3, ![1, 512, 3072]⟩
abbrev S1x8x2x128x256 : Shape := ⟨5, ![1, 8, 2, 128, 256]⟩
abbrev S512x1024 : Shape := ⟨2, ![512, 1024]⟩
abbrev S1x1x1x1024 : Shape := ⟨4, ![1, 1, 1, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S128x256 : Shape := ⟨2, ![128, 256]⟩
abbrev S1x1x1x128x256 : Shape := ⟨5, ![1, 1, 1, 128, 256]⟩

abbrev nBuf : Space → Nat
  | .hbm => 19
  | .vmem => 21
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S1024x1024, .f32⟩
  | .hbm, ⟨3, _⟩ => ⟨S3x4x1x1024, .f32⟩
  | .hbm, ⟨4, _⟩ => ⟨S4x8192x1024, .f32⟩
  | .hbm, ⟨5, _⟩ => ⟨S3x4x1x1024, .f32⟩
  | .hbm, ⟨6, _⟩ => ⟨S1024, .f32⟩
  | .hbm, ⟨7, _⟩ => ⟨S1024x4096, .f32⟩
  | .hbm, ⟨8, _⟩ => ⟨S1024x4096, .bf16⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S4x8192x512, .bf16⟩
  | .hbm, ⟨13, _⟩ => ⟨S4x8192x512, .bf16⟩
  | .hbm, ⟨14, _⟩ => ⟨S1x1024, .f32⟩
  | .hbm, ⟨15, _⟩ => ⟨S1024x1024, .bf16⟩
  | .hbm, ⟨16, _⟩ => ⟨S4x8192x1024, .f32⟩
  | .hbm, ⟨17, _⟩ => ⟨S4x8192x3072, .bf16⟩
  | .hbm, ⟨18, _⟩ => ⟨S4x8x32x128x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x1024, .bf16⟩
  | .local _ .vmem, ⟨5, _⟩ => ⟨S3x1x1x1024, .f32⟩
  | .local _ .vmem, ⟨6, _⟩ => ⟨S3x1x1x1024, .f32⟩
  | .local _ .vmem, ⟨7, _⟩ => ⟨S1x512x1024, .f32⟩
  | .local _ .vmem, ⟨8, _⟩ => ⟨S1x512x1024, .f32⟩
  | .local _ .vmem, ⟨9, _⟩ => ⟨S3x1x1x1024, .f32⟩
  | .local _ .vmem, ⟨10, _⟩ => ⟨S3x1x1x1024, .f32⟩
  | .local _ .vmem, ⟨11, _⟩ => ⟨S1x1024, .f32⟩
  | .local _ .vmem, ⟨12, _⟩ => ⟨S1024x4096, .bf16⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | .local _ .vmem, ⟨16, _⟩ => ⟨S1x512x3072, .bf16⟩
  | .local _ .vmem, ⟨17, _⟩ => ⟨S1x512x3072, .bf16⟩
  | .local _ .vmem, ⟨18, _⟩ => ⟨S1x8x2x128x256, .bf16⟩
  | .local _ .vmem, ⟨19, _⟩ => ⟨S1x8x2x128x256, .bf16⟩
  | .local _ .vmem, ⟨20, _⟩ => ⟨S512x1024, .bf16⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x2x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InKernelIdeal.lean ====
variable {F : FTy → Type} [FloatOps F] [Named F]
def κ : String → Option EReal := fun
  | "scale" => some (((8 * (Real.log 2))⁻¹ : ℝ) : EReal)
  | _ => none
-- ==== InReferenceIdeal.lean ====
abbrev S4x8192x512 : Shape := ⟨3, ![4, 8192, 512]⟩
abbrev S1024x1024 : Shape := ⟨2, ![1024, 1024]⟩
abbrev S3x4x1x1024 : Shape := ⟨4, ![3, 4, 1, 1024]⟩
abbrev S4x8192x1024 : Shape := ⟨3, ![4, 8192, 1024]⟩
abbrev S1024 : Shape := ⟨1, ![1024]⟩
abbrev S1024x4096 : Shape := ⟨2, ![1024, 4096]⟩
abbrev S1x4x1x1024 : Shape := ⟨4, ![1, 4, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S4x8192x3072 : Shape := ⟨3, ![4, 8192, 3072]⟩
abbrev S4x32x256x8x128 : Shape := ⟨5, ![4, 32, 256, 8, 128]⟩
abbrev S4x8x32x128x256 : Shape := ⟨5, ![4, 8, 32, 128, 256]⟩

abbrev nBuf : Space → Nat
  | .hbm => 67
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S1024x1024, .f32⟩
  | .hbm, ⟨3, _⟩ => ⟨S3x4x1x1024, .f32⟩
  | .hbm, ⟨4, _⟩ => ⟨S4x8192x1024, .f32⟩
  | .hbm, ⟨5, _⟩ => ⟨S3x4x1x1024, .f32⟩
  | .hbm, ⟨6, _⟩ => ⟨S1024, .f32⟩
  | .hbm, ⟨7, _⟩ => ⟨S1024x4096, .f32⟩
  | .hbm, ⟨8, _⟩ => ⟨S1x4x1x1024, .f32⟩
  | .hbm, ⟨9, _⟩ => ⟨S4x1x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S1x4x1x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S1x4x1x1024, .f32⟩
  | .hbm, ⟨39, _⟩ => ⟨S4x1x1024, .f32⟩
  | .hbm, ⟨40, _⟩ => ⟨S4x8192x1024, .f32⟩
  | .hbm, ⟨41, _⟩ => ⟨S4x8192x1024, .f32⟩
  | .hbm, ⟨42, _⟩ => ⟨S4x8192x4096, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S_, .f32⟩
  | .hbm, ⟨56, _⟩ => ⟨S4x8192x1024, .f32⟩
  | .hbm, ⟨57, _⟩ => ⟨S4x8192x1024, .f32⟩
  | .hbm, ⟨58, _⟩ => ⟨S_, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x3072, .f32⟩
  | .hbm, ⟨63, _⟩ => ⟨S4x32x256x8x128, .f32⟩
  | .hbm, ⟨64, _⟩ => ⟨S4x8x32x128x256, .f32⟩
  | .hbm, ⟨65, _⟩ => ⟨S4x8192x3072, .bf16⟩
  | .hbm, ⟨66, _⟩ => ⟨S4x8x32x128x256, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Proof.Own.lean ====
/-
  Loads and stores of a unit-stride rectangle of a memref held by what it reads (`owns`): a load continues at the
  rectangle of the contents (`rdU`), a store leaves the contents overwritten on the rectangle (`upU`).
-/
module

public import Idealize.ShloMosaic.Lib.Tactic
public import Idealize.ShloMosaic.Lib.WritesUnit
public import Idealize.ShloMosaic.Lib.Memref

@[expose] public section

noncomputable section

namespace Cert.Stick

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The unit-stride rectangle of sizes `size` at `off`, read off the contents `X`. -/
def rdU {α : Type} {s : Shape} (off size : Fin s.rank → ℕ) (inb : ∀ a, off a + size a ≤ s.size a) (X : s.Idx → α) :
    (Rect.unit off size inb).shape.Idx → α :=
  fun x => X ((Rect.unit off size inb).emb x)

/-- The contents `X` overwritten by `w` on the unit-stride rectangle of sizes `size` at `off`. -/
def upU {α : Type} {s : Shape} (off size : Fin s.rank → ℕ) (inb : ∀ a, off a + size a ≤ s.size a) (X : s.Idx → α)
    (w : (Rect.unit off size inb).shape.Idx → α) : s.Idx → α :=
  fun y => if h : ∀ a, off a ≤ (y a).val ∧ (y a).val < off a + size a then w (Rect.unitLocal (s := s) (off := off) (size := size) y h) else X y

/-- What is written over agrees where the overwritten contents agree off the rectangle. -/
theorem upU_congr {α : Type} {s : Shape} {off size : Fin s.rank → ℕ} {inb : ∀ a, off a + size a ≤ s.size a} {X X' : s.Idx → α}
    {w : (Rect.unit off size inb).shape.Idx → α} {y : s.Idx} (h : (¬ ∀ a, off a ≤ (y a).val ∧ (y a).val < off a + size a) → X y = X' y) :
    upU off size inb X w y = upU off size inb X' w y := by
  unfold upU
  split
  · rfl
  · exact h ‹_›

variable {nD : ℕ} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ : Labels} {defs : Defs nD τ sig Val Λ} (𝒱 : Variants) (c : Thread nD τ) (bd : Option 𝒱.V) (E : Set Name)
variable {cs : CoreSpace} {s : Shape} {e : EltTy}

/-- A load of a unit-stride rectangle from a memref held at `X`. -/
theorem wp_load_owns {α : Type} {Q : α → sProp 𝕄} {M : Memref sig c.2.kind cs s e} {off size : Fin s.rank → ℕ}
    {inb : ∀ a, off a + size a ≤ s.size a} {hl : M.view.LoadsAt (Rect.unit off size inb).toLoadRect}
    {k : ((Rect.unit off size inb).shape.Idx → Val e) → Prog (TpuEff nD τ sig Val Λ c.2) α} {q : PosShare TreeShare} {X : s.Idx → Val e} :
    (owns c M q X : sProp 𝕄)
      ⊢ iprop((owns c M q X -∗ wp frame (wpE defs 𝒱 c bd) E (k (rdU off size inb X)) Q)
        -∗ wp frame (wpE defs 𝒱 c bd) E (.op (.load M (Rect.unit off size inb).toLoadRect hl) k) Q) := by
  unfold owns
  iintro ⟨%f, %hf, H⟩ Hk
  subst hf
  iapply (wp_load 𝒱 c bd E (m := M) (r := (Rect.unit off size inb).toLoadRect) (f := f) (S := M.view.set)
    (Finset.map_subset_map.mpr (Finset.subset_univ _))) $$ H
  iintro H
  iapply Hk
  iexists f
  isplitr
  · ipureintro; rfl
  iexact H

/-- A store of a unit-stride rectangle into a memref held at `X`. -/
theorem wp_store_owns {α : Type} {Q : α → sProp 𝕄} {M : Memref sig c.2.kind cs s e} {off size : Fin s.rank → ℕ}
    {inb : ∀ a, off a + size a ≤ s.size a} {w : (Rect.unit off size inb).shape.Idx → Val e}
    {hx : (M.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} :
    (owns c M fullShare X : sProp 𝕄)
      ⊢ iprop((owns c M fullShare (upU off size inb X w) -∗ wp frame (wpE defs 𝒱 c bd) E (k ⟨⟩) Q)
        -∗ wp frame (wpE defs 𝒱 c bd) E (.op (.store M (Rect.unit off size inb) w Finset.univ hx hm) k) Q) := by
  unfold owns
  iintro ⟨%f, %hf, H⟩ Hk
  subst hf
  iapply (wp_store 𝒱 c bd E (m := M) (r := Rect.unit off size inb) (w := w) (Mk := Finset.univ) (f := f) (S := M.view.set)
    (View.set_slice_subset M.view (Rect.unit off size inb))) $$ H
  iintro H
  iapply Hk
  iexists _
  isplitr
  · ipureintro
    funext y
    exact View.read_writes_cons_unit M.view f inb w [] y rfl
  iexact H

end Cert.Stick

end
-- ==== Proof.StepsI.lean ====
/-
  What the parts of the kernel's body leave, as functions of what its memrefs read, and the body's parts run on them.
-/
module

public import proofs.«01_k».proof.Proof.Own
public import proofs.«01_k».proof.Proof.Gen.KernelIdeal.Skeleton
public import Idealize.ShloMosaic.Lib.Pipeline.Kit

@[expose] public section

noncomputable section

namespace Cert.KernelIdeal.Stick

open Cert.KernelIdeal Cert.KernelIdeal.Gen Cert.Stick

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The loop's variant: the trips still to run. -/
abbrev 𝒱₀ : Variants := Variants.nat

/-- The masked query rows after the first half of their stores. -/
def qsLow (X4 : Vec F S1x256x512 .bf16) (X9 : Vec F S2048x128 .bf16) : Vec F S2048x128 .bf16 :=
  (upU (s := S2048x128) ![768, 0] S256x128.size inb_S2048x128_S256x128_768_0 (upU (s := S2048x128) ![512, 0] S256x128.size inb_S2048x128_S256x128_512_0 (upU (s := S2048x128) ![256, 0] S256x128.size inb_S2048x128_S256x128_256_0 (upU (s := S2048x128) ![0, 0] S256x128.size inb_S2048x128_S256x128_0_0 X9 (k0_pay9 (rdU (s := S1x256x512) ![0, 0, 0] S1x256x128.size inb_S1x256x512_S1x256x128_0_0_0 X4))) (k0_pay10 (rdU (s := S1x256x512) ![0, 0, 0] S1x256x128.size inb_S1x256x512_S1x256x128_0_0_0 X4))) (k0_pay13 (rdU (s := S1x256x512) ![0, 0, 128] S1x256x128.size inb_S1x256x512_S1x256x128_0_0_128 X4))) (k0_pay14 (rdU (s := S1x256x512) ![0, 0, 128] S1x256x128.size inb_S1x256x512_S1x256x128_0_0_128 X4)))

/-- The triangle of ones, as loaded. -/
def triT (X3 : Vec F S256x256 .bf16) : FVec F S256x256 .bf16 :=
  k0_pay23 (rdU (s := S256x256) ![0, 0] S256x256.size inb_S256x256_S256x256_0_0 X3)

/-- The masked query rows after the second half of their stores. -/
def qsHigh (X4 : Vec F S1x256x512 .bf16) (X9 : Vec F S2048x128 .bf16) (v0 : IVec S256x128 32) : Vec F S2048x128 .bf16 :=
  (upU (s := S2048x128) ![1792, 0] S256x128.size inb_S2048x128_S256x128_1792_0 (upU (s := S2048x128) ![1536, 0] S256x128.size inb_S2048x128_S256x128_1536_0 (upU (s := S2048x128) ![1280, 0] S256x128.size inb_S2048x128_S256x128_1280_0 (upU (s := S2048x128) ![1024, 0] S256x128.size inb_S2048x128_S256x128_1024_0 X9 (k0_pay17 v0 (rdU (s := S1x256x512) ![0, 0, 256] S1x256x128.size inb_S1x256x512_S1x256x128_0_0_256 X4))) (k0_pay18 v0 (rdU (s := S1x256x512) ![0, 0, 256] S1x256x128.size inb_S1x256x512_S1x256x128_0_0_256 X4))) (k0_pay21 v0 (rdU (s := S1x256x512) ![0, 0, 384] S1x256x128.size inb_S1x256x512_S1x256x128_0_0_384 X4))) (k0_pay22 v0 (rdU (s := S1x256x512) ![0, 0, 384] S1x256x128.size inb_S1x256x512_S1x256x128_0_0_384 X4)))

/-- Scores of the diagonal block, before its mask. -/
def zDiag (i : grid0.Coords) (X5 : Vec F S1x8192x512 .bf16) (X9 : Vec F S2048x128 .bf16) : FVec F S256x2048 .f32 :=
  k0_pay26 (rdU (s := S1x8192x512) (k0_off1 i) S1x256x128.size (k0_off1_inb i) X5) (rdU (s := S2048x128) ![0, 0] S512x128.size inb_S2048x128_S512x128_0_0 X9) (rdU (s := S1x8192x512) (k0_off2 i) S1x256x128.size (k0_off2_inb i) X5) (rdU (s := S2048x128) ![512, 0] S512x128.size inb_S2048x128_S512x128_512_0 X9) (rdU (s := S1x8192x512) (k0_off3 i) S1x256x128.size (k0_off3_inb i) X5) (rdU (s := S2048x128) ![1024, 0] S512x128.size inb_S2048x128_S512x128_1024_0 X9) (rdU (s := S1x8192x512) (k0_off4 i) S1x256x128.size (k0_off4_inb i) X5) (rdU (s := S2048x128) ![1536, 0] S512x128.size inb_S2048x128_S512x128_1536_0 X9)

/-- The accumulator, cleared. -/
def accClear (X11 : Vec F S128x2048 .f32) (v63 : FVec F S128x2048 .f32) : Vec F S128x2048 .f32 :=
  (upU (s := S128x2048) ![0, 0] S128x2048.size inb_S128x2048_S128x2048_0_0 X11 (k0_pay25 v63))

/-- Scores of the previous block, first head pair. -/
def zPrev0 (i : grid0.Coords) (X5 : Vec F S1x8192x512 .bf16) (X9 : Vec F S2048x128 .bf16) : FVec F S256x512 .f32 :=
  k0_pay31 (rdU (s := S1x8192x512) (k0_off5 i) S1x256x128.size (k0_off5_inb i) X5) (rdU (s := S2048x128) ![0, 0] S512x128.size inb_S2048x128_S512x128_0_0 X9)

/-- Scores of the previous block, second head pair. -/
def zPrev1 (i : grid0.Coords) (X5 : Vec F S1x8192x512 .bf16) (X9 : Vec F S2048x128 .bf16) : FVec F S256x512 .f32 :=
  k0_pay32 (rdU (s := S1x8192x512) (k0_off6 i) S1x256x128.size (k0_off6_inb i) X5) (rdU (s := S2048x128) ![512, 0] S512x128.size inb_S2048x128_S512x128_512_0 X9)

/-- Scores of the previous block, third head pair. -/
def zPrev2 (i : grid0.Coords) (X5 : Vec F S1x8192x512 .bf16) (X9 : Vec F S2048x128 .bf16) : FVec F S256x512 .f32 :=
  k0_pay33 (rdU (s := S1x8192x512) (k0_off7 i) S1x256x128.size (k0_off7_inb i) X5) (rdU (s := S2048x128) ![1024, 0] S512x128.size inb_S2048x128_S512x128_1024_0 X9)

/-- Keys of the previous block, fourth head pair. -/
def kPrev3 (i : grid0.Coords) (X5 : Vec F S1x8192x512 .bf16) : FVec F S256x128 .bf16 :=
  k0_pay34 (rdU (s := S1x8192x512) (k0_off8 i) S1x256x128.size (k0_off8_inb i) X5)

/-- Scores of the previous block. -/
def zPrev (X9 : Vec F S2048x128 .bf16) (v119 : FVec F S256x512 .f32) (v124 : FVec F S256x512 .f32) (v129 : FVec F S256x512 .f32) (v132 : FVec F S256x128 .bf16) : FVec F S256x2048 .f32 :=
  k0_pay35 v119 v124 v129 v132 (rdU (s := S2048x128) ![1536, 0] S512x128.size inb_S2048x128_S512x128_1536_0 X9)

/-- Suffix sums of the softplus of the previous block. -/
def csPrev (X9 : Vec F S2048x128 .bf16) (v62 : FVec F S256x256 .bf16) (v119 : FVec F S256x512 .f32) (v124 : FVec F S256x512 .f32) (v129 : FVec F S256x512 .f32) (v132 : FVec F S256x128 .bf16) : FVec F S256x2048 .f32 :=
  k0_pay36 v62 v119 v124 v129 v132 (rdU (s := S2048x128) ![1536, 0] S512x128.size inb_S2048x128_S512x128_1536_0 X9)

/-- The second quarter of the accumulator, as loaded. -/
def accOne (i : grid0.Coords) (X6 : Vec F S1x4x32x128x256 .bf16) (X11 : Vec F S128x2048 .f32) (v98 : FVec F S256x2048 .f32) (v112 : FVec F S256x2048 .f32) : Vec F S128x512 .f32 :=
  (rdU (s := S128x2048) ![0, 512] S128x512.size inb_S128x2048_S128x512_0_512 (upU (s := S128x2048) ![0, 0] S128x512.size inb_S128x2048_S128x512_0_0 X11 (k0_pay39 v98 v112 (rdU (s := S128x2048) ![0, 0] S128x512.size inb_S128x2048_S128x512_0_0 X11) (rdU (s := S1x4x32x128x256) (k0_off9 i) S1x1x1x128x256.size (k0_off9_inb i) X6))))

/-- Values of the diagonal block, second head pair. -/
def vDiagOne (i : grid0.Coords) (X6 : Vec F S1x4x32x128x256 .bf16) : FVec F S128x256 .bf16 :=
  k0_pay40 (rdU (s := S1x4x32x128x256) (k0_off10 i) S1x1x1x128x256.size (k0_off10_inb i) X6)

/-- The accumulator after the diagonal block, first head pair. -/
def accDiag0 (i : grid0.Coords) (X6 : Vec F S1x4x32x128x256 .bf16) (X11 : Vec F S128x2048 .f32) (v98 : FVec F S256x2048 .f32) (v112 : FVec F S256x2048 .f32) : Vec F S128x2048 .f32 :=
  (upU (s := S128x2048) ![0, 0] S128x512.size inb_S128x2048_S128x512_0_0 X11 (k0_pay39 v98 v112 (rdU (s := S128x2048) ![0, 0] S128x512.size inb_S128x2048_S128x512_0_0 X11) (rdU (s := S1x4x32x128x256) (k0_off9 i) S1x1x1x128x256.size (k0_off9_inb i) X6)))

/-- The accumulator after the diagonal block, further head pairs. -/
def accDiag (i : grid0.Coords) (X6 : Vec F S1x4x32x128x256 .bf16) (X11 : Vec F S128x2048 .f32) (v155 : FVec F S256x2048 .bf16) (v166 : Vec F S128x512 .f32) (v169 : FVec F S128x256 .bf16) : Vec F S128x2048 .f32 :=
  (upU (s := S128x2048) ![0, 1536] S128x512.size inb_S128x2048_S128x512_0_1536 (upU (s := S128x2048) ![0, 1024] S128x512.size inb_S128x2048_S128x512_0_1024 (upU (s := S128x2048) ![0, 512] S128x512.size inb_S128x2048_S128x512_0_512 X11 (k0_pay41 v155 v166 v169)) (k0_pay42 v155 (rdU (s := S128x2048) ![0, 1024] S128x512.size inb_S128x2048_S128x512_0_1024 (upU (s := S128x2048) ![0, 512] S128x512.size inb_S128x2048_S128x512_0_512 X11 (k0_pay41 v155 v166 v169))) (rdU (s := S1x4x32x128x256) (k0_off11 i) S1x1x1x128x256.size (k0_off11_inb i) X6))) (k0_pay43 v155 (rdU (s := S128x2048) ![0, 1536] S128x512.size inb_S128x2048_S128x512_0_1536 (upU (s := S128x2048) ![0, 1024] S128x512.size inb_S128x2048_S128x512_0_1024 (upU (s := S128x2048) ![0, 512] S128x512.size inb_S128x2048_S128x512_0_512 X11 (k0_pay41 v155 v166 v169)) (k0_pay42 v155 (rdU (s := S128x2048) ![0, 1024] S128x512.size inb_S128x2048_S128x512_0_1024 (upU (s := S128x2048) ![0, 512] S128x512.size inb_S128x2048_S128x512_0_512 X11 (k0_pay41 v155 v166 v169))) (rdU (s := S1x4x32x128x256) (k0_off11 i) S1x1x1x128x256.size (k0_off11_inb i) X6)))) (rdU (s := S1x4x32x128x256) (k0_off12 i) S1x1x1x128x256.size (k0_off12_inb i) X6)))

/-- The third quarter of the accumulator after the previous block. -/
def accTwo (i : grid0.Coords) (X6 : Vec F S1x4x32x128x256 .bf16) (X11 : Vec F S128x2048 .f32) (v201 : FVec F S1x2048 .f32) (v202 : FVec F S256x2048 .f32) : FVec F S128x512 .f32 :=
  k0_pay49 v201 v202 (rdU (s := S128x2048) ![0, 1024] S128x512.size inb_S128x2048_S128x512_0_1024 (upU (s := S128x2048) ![0, 512] S128x512.size inb_S128x2048_S128x512_0_512 (upU (s := S128x2048) ![0, 0] S128x512.size inb_S128x2048_S128x512_0_0 X11 (k0_pay47 v201 v202 (rdU (s := S128x2048) ![0, 0] S128x512.size inb_S128x2048_S128x512_0_0 X11) (rdU (s := S1x4x32x128x256) (k0_off13 i) S1x1x1x128x256.size (k0_off13_inb i) X6))) (k0_pay48 v201 v202 (rdU (s := S128x2048) ![0, 512] S128x512.size inb_S128x2048_S128x512_0_512 (upU (s := S128x2048) ![0, 0] S128x512.size inb_S128x2048_S128x512_0_0 X11 (k0_pay47 v201 v202 (rdU (s := S128x2048) ![0, 0] S128x512.size inb_S128x2048_S128x512_0_0 X11) (rdU (s := S1x4x32x128x256) (k0_off13 i) S1x1x1x128x256.size (k0_off13_inb i) X6)))) (rdU (s := S1x4x32x128x256) (k0_off14 i) S1x1x1x128x256.size (k0_off14_inb i) X6)))) (rdU (s := S1x4x32x128x256) (k0_off15 i) S1x1x1x128x256.size (k0_off15_inb i) X6)

/-- The accumulator after the previous block, first two head pairs. -/
def accPrev0 (i : grid0.Coords) (X6 : Vec F S1x4x32x128x256 .bf16) (X11 : Vec F S128x2048 .f32) (v201 : FVec F S1x2048 .f32) (v202 : FVec F S256x2048 .f32) : Vec F S128x2048 .f32 :=
  (upU (s := S128x2048) ![0, 512] S128x512.size inb_S128x2048_S128x512_0_512 (upU (s := S128x2048) ![0, 0] S128x512.size inb_S128x2048_S128x512_0_0 X11 (k0_pay47 v201 v202 (rdU (s := S128x2048) ![0, 0] S128x512.size inb_S128x2048_S128x512_0_0 X11) (rdU (s := S1x4x32x128x256) (k0_off13 i) S1x1x1x128x256.size (k0_off13_inb i) X6))) (k0_pay48 v201 v202 (rdU (s := S128x2048) ![0, 512] S128x512.size inb_S128x2048_S128x512_0_512 (upU (s := S128x2048) ![0, 0] S128x512.size inb_S128x2048_S128x512_0_0 X11 (k0_pay47 v201 v202 (rdU (s := S128x2048) ![0, 0] S128x512.size inb_S128x2048_S128x512_0_0 X11) (rdU (s := S1x4x32x128x256) (k0_off13 i) S1x1x1x128x256.size (k0_off13_inb i) X6)))) (rdU (s := S1x4x32x128x256) (k0_off14 i) S1x1x1x128x256.size (k0_off14_inb i) X6)))

/-- The accumulator columns of the seventh head. -/
def accLeft (X11 : Vec F S128x2048 .f32) : Vec F S128x256 .f32 :=
  (rdU (s := S128x2048) ![0, 1536] S128x256.size inb_S128x2048_S128x256_0_1536 X11)

/-- The accumulator columns of the eighth head. -/
def accRight (X11 : Vec F S128x2048 .f32) : Vec F S128x256 .f32 :=
  (rdU (s := S128x2048) ![0, 1792] S128x256.size inb_S128x2048_S128x256_0_1792 X11)

/-- The result block after three head pairs. -/
def outLow (X7 : Vec F S1x256x512 .bf16) (X8 : Vec F S1x256x512 .bf16) (X11 : Vec F S128x2048 .f32) (v260 : IVec S128x256 1) (v268 : FVec F S256x128 .f32) : Vec F S1x256x512 .bf16 :=
  (upU (s := S1x256x512) ![0, 0, 256] S1x256x128.size inb_S1x256x512_S1x256x128_0_0_256 (upU (s := S1x256x512) ![0, 0, 128] S1x256x128.size inb_S1x256x512_S1x256x128_0_0_128 (upU (s := S1x256x512) ![0, 0, 0] S1x256x128.size inb_S1x256x512_S1x256x128_0_0_0 X8 (k0_pay57 v268)) (k0_pay58 v260 (rdU (s := S128x2048) ![0, 512] S128x256.size inb_S128x2048_S128x256_0_512 X11) (rdU (s := S128x2048) ![0, 768] S128x256.size inb_S128x2048_S128x256_0_768 X11) (rdU (s := S1x256x512) ![0, 0, 128] S1x256x128.size inb_S1x256x512_S1x256x128_0_0_128 X7))) (k0_pay59 v260 (rdU (s := S128x2048) ![0, 1024] S128x256.size inb_S128x2048_S128x256_0_1024 X11) (rdU (s := S128x2048) ![0, 1280] S128x256.size inb_S128x2048_S128x256_0_1280 X11) (rdU (s := S1x256x512) ![0, 0, 256] S1x256x128.size inb_S1x256x512_S1x256x128_0_0_256 X7)))

/-- Scores of the block of a trip. -/
def zLoop (i : grid0.Coords) (arg12 : BitVec 32) (h1 : k0_chk1 i arg12) (X5 : Vec F S1x8192x512 .bf16) (X9 : Vec F S2048x128 .bf16) : FVec F S256x2048 .f32 :=
  k0_pay60 (rdU (s := S1x8192x512) (k0_off17 i arg12) S1x256x128.size (k0_off17_inb i arg12 h1) X5) (rdU (s := S2048x128) ![0, 0] S512x128.size inb_S2048x128_S512x128_0_0 X9) (rdU (s := S1x8192x512) (k0_off18 i arg12) S1x256x128.size (k0_off18_inb i arg12 h1) X5) (rdU (s := S2048x128) ![512, 0] S512x128.size inb_S2048x128_S512x128_512_0 X9) (rdU (s := S1x8192x512) (k0_off19 i arg12) S1x256x128.size (k0_off19_inb i arg12 h1) X5) (rdU (s := S2048x128) ![1024, 0] S512x128.size inb_S2048x128_S512x128_1024_0 X9) (rdU (s := S1x8192x512) (k0_off20 i arg12) S1x256x128.size (k0_off20_inb i arg12 h1) X5) (rdU (s := S2048x128) ![1536, 0] S512x128.size inb_S2048x128_S512x128_1536_0 X9)

/-- The positive part of the scores of a trip. -/
def absLoop (i : grid0.Coords) (arg12 : BitVec 32) (h1 : k0_chk1 i arg12) (X5 : Vec F S1x8192x512 .bf16) (X9 : Vec F S2048x128 .bf16) : FVec F S256x2048 .f32 :=
  k0_pay61 (rdU (s := S1x8192x512) (k0_off17 i arg12) S1x256x128.size (k0_off17_inb i arg12 h1) X5) (rdU (s := S2048x128) ![0, 0] S512x128.size inb_S2048x128_S512x128_0_0 X9) (rdU (s := S1x8192x512) (k0_off18 i arg12) S1x256x128.size (k0_off18_inb i arg12 h1) X5) (rdU (s := S2048x128) ![512, 0] S512x128.size inb_S2048x128_S512x128_512_0 X9) (rdU (s := S1x8192x512) (k0_off19 i arg12) S1x256x128.size (k0_off19_inb i arg12 h1) X5) (rdU (s := S2048x128) ![1024, 0] S512x128.size inb_S2048x128_S512x128_1024_0 X9) (rdU (s := S1x8192x512) (k0_off20 i arg12) S1x256x128.size (k0_off20_inb i arg12 h1) X5) (rdU (s := S2048x128) ![1536, 0] S512x128.size inb_S2048x128_S512x128_1536_0 X9)

/-- The logarithm part of the softplus of a trip. -/
def softLoop (i : grid0.Coords) (arg12 : BitVec 32) (h1 : k0_chk1 i arg12) (X5 : Vec F S1x8192x512 .bf16) (X9 : Vec F S2048x128 .bf16) : FVec F S256x2048 .f32 :=
  k0_pay62 (rdU (s := S1x8192x512) (k0_off17 i arg12) S1x256x128.size (k0_off17_inb i arg12 h1) X5) (rdU (s := S2048x128) ![0, 0] S512x128.size inb_S2048x128_S512x128_0_0 X9) (rdU (s := S1x8192x512) (k0_off18 i arg12) S1x256x128.size (k0_off18_inb i arg12 h1) X5) (rdU (s := S2048x128) ![512, 0] S512x128.size inb_S2048x128_S512x128_512_0 X9) (rdU (s := S1x8192x512) (k0_off19 i arg12) S1x256x128.size (k0_off19_inb i arg12 h1) X5) (rdU (s := S2048x128) ![1024, 0] S512x128.size inb_S2048x128_S512x128_1024_0 X9) (rdU (s := S1x8192x512) (k0_off20 i arg12) S1x256x128.size (k0_off20_inb i arg12 h1) X5) (rdU (s := S2048x128) ![1536, 0] S512x128.size inb_S2048x128_S512x128_1536_0 X9)

/-- The running total, as loaded by a trip. -/
def runRead (X10 : Vec F S1x2048 .f32) : Vec F S1x2048 .f32 :=
  (rdU (s := S1x2048) ![0, 0] S1x2048.size inb_S1x2048_S1x2048_0_0 X10)

/-- Weights of the block of a trip. -/
def wLoop (X10 : Vec F S1x2048 .f32) (v62 : FVec F S256x256 .bf16) (v333 : FVec F S256x2048 .f32) (v335 : FVec F S256x2048 .f32) (v342 : FVec F S256x2048 .f32) : FVec F S256x2048 .bf16 :=
  k0_pay64 v62 v333 v335 v342 (rdU (s := S1x2048) ![0, 0] S1x2048.size inb_S1x2048_S1x2048_0_0 X10)

/-- The third quarter of the accumulator, as loaded by a trip. -/
def accLoopTwo (i : grid0.Coords) (arg12 : BitVec 32) (h1 : k0_chk1 i arg12) (X6 : Vec F S1x4x32x128x256 .bf16) (X10 : Vec F S1x2048 .f32) (X11 : Vec F S128x2048 .f32) (v62 : FVec F S256x256 .bf16) (v333 : FVec F S256x2048 .f32) (v335 : FVec F S256x2048 .f32) (v342 : FVec F S256x2048 .f32) : Vec F S128x512 .f32 :=
  (rdU (s := S128x2048) ![0, 1024] S128x512.size inb_S128x2048_S128x512_0_1024 (upU (s := S128x2048) ![0, 512] S128x512.size inb_S128x2048_S128x512_0_512 (upU (s := S128x2048) ![0, 0] S128x512.size inb_S128x2048_S128x512_0_0 X11 (k0_pay65 v62 v333 v335 v342 (rdU (s := S1x2048) ![0, 0] S1x2048.size inb_S1x2048_S1x2048_0_0 X10) (rdU (s := S128x2048) ![0, 0] S128x512.size inb_S128x2048_S128x512_0_0 X11) (rdU (s := S1x4x32x128x256) (k0_off21 i arg12) S1x1x1x128x256.size (k0_off21_inb i arg12 h1) X6))) (k0_pay66 v62 v333 v335 v342 (rdU (s := S1x2048) ![0, 0] S1x2048.size inb_S1x2048_S1x2048_0_0 X10) (rdU (s := S128x2048) ![0, 512] S128x512.size inb_S128x2048_S128x512_0_512 (upU (s := S128x2048) ![0, 0] S128x512.size inb_S128x2048_S128x512_0_0 X11 (k0_pay65 v62 v333 v335 v342 (rdU (s := S1x2048) ![0, 0] S1x2048.size inb_S1x2048_S1x2048_0_0 X10) (rdU (s := S128x2048) ![0, 0] S128x512.size inb_S128x2048_S128x512_0_0 X11) (rdU (s := S1x4x32x128x256) (k0_off21 i arg12) S1x1x1x128x256.size (k0_off21_inb i arg12 h1) X6)))) (rdU (s := S1x4x32x128x256) (k0_off22 i arg12) S1x1x1x128x256.size (k0_off22_inb i arg12 h1) X6))))

/-- The accumulator in a trip, after two head pairs. -/
def accLoop0 (i : grid0.Coords) (arg12 : BitVec 32) (h1 : k0_chk1 i arg12) (X6 : Vec F S1x4x32x128x256 .bf16) (X10 : Vec F S1x2048 .f32) (X11 : Vec F S128x2048 .f32) (v62 : FVec F S256x256 .bf16) (v333 : FVec F S256x2048 .f32) (v335 : FVec F S256x2048 .f32) (v342 : FVec F S256x2048 .f32) : Vec F S128x2048 .f32 :=
  (upU (s := S128x2048) ![0, 512] S128x512.size inb_S128x2048_S128x512_0_512 (upU (s := S128x2048) ![0, 0] S128x512.size inb_S128x2048_S128x512_0_0 X11 (k0_pay65 v62 v333 v335 v342 (rdU (s := S1x2048) ![0, 0] S1x2048.size inb_S1x2048_S1x2048_0_0 X10) (rdU (s := S128x2048) ![0, 0] S128x512.size inb_S128x2048_S128x512_0_0 X11) (rdU (s := S1x4x32x128x256) (k0_off21 i arg12) S1x1x1x128x256.size (k0_off21_inb i arg12 h1) X6))) (k0_pay66 v62 v333 v335 v342 (rdU (s := S1x2048) ![0, 0] S1x2048.size inb_S1x2048_S1x2048_0_0 X10) (rdU (s := S128x2048) ![0, 512] S128x512.size inb_S128x2048_S128x512_0_512 (upU (s := S128x2048) ![0, 0] S128x512.size inb_S128x2048_S128x512_0_0 X11 (k0_pay65 v62 v333 v335 v342 (rdU (s := S1x2048) ![0, 0] S1x2048.size inb_S1x2048_S1x2048_0_0 X10) (rdU (s := S128x2048) ![0, 0] S128x512.size inb_S128x2048_S128x512_0_0 X11) (rdU (s := S1x4x32x128x256) (k0_off21 i arg12) S1x1x1x128x256.size (k0_off21_inb i arg12 h1) X6)))) (rdU (s := S1x4x32x128x256) (k0_off22 i arg12) S1x1x1x128x256.size (k0_off22_inb i arg12 h1) X6)))

/-- Part 1 of the body, on memrefs held at what they read. -/
theorem part1_wp (c : Dev nD) (bd : Option ℕ) (E : Set ℕ) (i : grid0.Coords) (arg3 : Memref sig .tc .vmem S256x256 .bf16) (harg3 : arg3.IsWhole) (arg4 : Memref sig .tc .vmem S1x256x512 .bf16) (harg4 : arg4.IsWhole) (arg5 : Memref sig .tc .vmem S1x8192x512 .bf16) (harg5 : arg5.IsWhole) (arg6 : Memref sig .tc .vmem S1x4x32x128x256 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole)  {q4 : PosShare TreeShare} {X4 : Vec F S1x256x512 .bf16} {X9 : Vec F S2048x128 .bf16}
    (K : (Σ' (arg2 : BitVec 32), IVec S256x128 32) → sProp 𝕄) :
    iprop(owns (c : Thread nD τ) arg4 q4 X4 ∗ owns (c : Thread nD τ) arg9 fullShare X9
      ∗ (owns (c : Thread nD τ) arg4 q4 X4 -∗ owns (c : Thread nD τ) arg9 fullShare (qsLow X4 X9)
        -∗ K ⟨(BitVec.ofNat 32 (i 2).val), (iota .tc S256x128 32 [1] iota_S256x128_d1_w32)⟩))
    ⊢ wp frame (wpE (defs₀ (F := F)) 𝒱₀ (c : Thread nD τ) bd) E (k0_part1 i arg3 harg3 arg4 harg4 arg5 harg5 arg6 harg6 arg7 harg7 arg8 harg8 arg9 harg9 arg10 harg10 arg11 harg11 ) K := by
  unfold qsLow
  rw [k0_part1_eq_skeleton]; unfold k0_part1_skel
  simp only [Prog.lift, Prog.bind_op, Prog.bind_ret, Prog.pure_eq_ret]
  iintro ⟨H4, H9, Hk⟩
  iapply (wp_load_owns 𝒱₀ (c : Thread nD τ) bd E) $$ H4; iintro H4
  iapply (wp_load_owns 𝒱₀ (c : Thread nD τ) bd E) $$ H9; iintro H9
  iapply (wp_store_owns 𝒱₀ (c : Thread nD τ) bd E) $$ H9; iintro H9
  iapply (wp_load_owns 𝒱₀ (c : Thread nD τ) bd E) $$ H9; iintro H9
  iapply (wp_store_owns 𝒱₀ (c : Thread nD τ) bd E) $$ H9; iintro H9
  iapply (wp_load_owns 𝒱₀ (c : Thread nD τ) bd E) $$ H4; iintro H4
  iapply (wp_load_owns 𝒱₀ (c : Thread nD τ) bd E) $$ H9; iintro H9
  iapply (wp_store_owns 𝒱₀ (c : Thread nD τ) bd E) $$ H9; iintro H9
  iapply (wp_load_owns 𝒱₀ (c : Thread nD τ) bd E) $$ H9; iintro H9
  iapply (wp_store_owns 𝒱₀ (c : Thread nD τ) bd E) $$ H9; iintro H9
  rw [wp_ret]; imodintro
  iapply Hk $$ H4 H9

/-- Part 2 of the body, on memrefs held at what they read. -/
theorem part2_wp (c : Dev nD) (bd : Option ℕ) (E : Set ℕ) (i : grid0.Coords) (arg3 : Memref sig .tc .vmem S256x256 .bf16) (harg3 : arg3.IsWhole) (arg4 : Memref sig .tc .vmem S1x256x512 .bf16) (harg4 : arg4.IsWhole) (arg5 : Memref sig .tc .vmem S1x8192x512 .bf16) (harg5 : arg5.IsWhole) (arg6 : Memref sig .tc .vmem S1x4x32x128x256 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole) (v0 : IVec S256x128 32) {q3 : PosShare TreeShare} {q4 : PosShare TreeShare} {X3 : Vec F S256x256 .bf16} {X4 : Vec F S1x256x512 .bf16} {X9 : Vec F S2048x128 .bf16}
    (K : (Σ' (v62 : FVec F S256x256 .bf16), FVec F S128x2048 .f32) → sProp 𝕄) :
    iprop(owns (c : Thread nD τ) arg3 q3 X3 ∗ owns (c : Thread nD τ) arg4 q4 X4 ∗ owns (c : Thread nD τ) arg9 fullShare X9
      ∗ (owns (c : Thread nD τ) arg3 q3 X3 -∗ owns (c : Thread nD τ) arg4 q4 X4 -∗ owns (c : Thread nD τ) arg9 fullShare (qsHigh X4 X9 v0)
        -∗ K ⟨(triT X3), (k0_pay24 (F := F))⟩))
    ⊢ wp frame (wpE (defs₀ (F := F)) 𝒱₀ (c : Thread nD τ) bd) E (k0_part2 i arg3 harg3 arg4 harg4 arg5 harg5 arg6 harg6 arg7 harg7 arg8 harg8 arg9 harg9 arg10 harg10 arg11 harg11 v0) K := by
  unfold triT qsHigh
  rw [k0_part2_eq_skeleton]; unfold k0_part2_skel
  simp only [Prog.lift, Prog.bind_op, Prog.bind_ret, Prog.pure_eq_ret]
  iintro ⟨H3, H4, H9, Hk⟩
  iapply (wp_load_owns 𝒱₀ (c : Thread nD τ) bd E) $$ H4; iintro H4
  iapply (wp_load_owns 𝒱₀ (c : Thread nD τ) bd E) $$ H9; iintro H9
  iapply (wp_store_owns 𝒱₀ (c : Thread nD τ) bd E) $$ H9; iintro H9
  iapply (wp_load_owns 𝒱₀ (c : Thread nD τ) bd E) $$ H9; iintro H9
  iapply (wp_store_owns 𝒱₀ (c : Thread nD τ) bd E) $$ H9; iintro H9
  iapply (wp_load_owns 𝒱₀ (c : Thread nD τ) bd E) $$ H4; iintro H4
  iapply (wp_load_owns 𝒱₀ (c : Thread nD τ) bd E) $$ H9; iintro H9
  iapply (wp_store_owns 𝒱₀ (c : Thread nD τ) bd E) $$ H9; iintro H9
  iapply (wp_load_owns 𝒱₀ (c : Thread nD τ) bd E) $$ H9; iintro H9
  iapply (wp_store_owns 𝒱₀ (c : Thread nD τ) bd E) $$ H9; iintro H9
  iapply (wp_load_owns 𝒱₀ (c : Thread nD τ) bd E) $$ H3; iintro H3
  rw [wp_ret]; imodintro
  iapply Hk $$ H3 H4 H9

/-- Part 3 of the body, on memrefs held at what they read. -/
theorem part3_wp (c : Dev nD) (bd : Option ℕ) (E : Set ℕ) (i : grid0.Coords) (arg3 : Memref sig .tc .vmem S256x256 .bf16) (harg3 : arg3.IsWhole) (arg4 : Memref sig .tc .vmem S1x256x512 .bf16) (harg4 : arg4.IsWhole) (arg5 : Memref sig .tc .vmem S1x8192x512 .bf16) (harg5 : arg5.IsWhole) (arg6 : Memref sig .tc .vmem S1x4x32x128x256 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole) (arg2 : BitVec 32) (v63 : FVec F S128x2048 .f32) {q5 : PosShare TreeShare} {q9 : PosShare TreeShare} {X5 : Vec F S1x8192x512 .bf16} {X9 : Vec F S2048x128 .bf16} {X11 : Vec F S128x2048 .f32}
    (K : (Σ' (v68 : BitVec 32) (v91 : FVec F S256x2048 .f32) (v96 : IVec S256x2048 1), FVec F S256x2048 .f32) → sProp 𝕄) :
    iprop(owns (c : Thread nD τ) arg5 q5 X5 ∗ owns (c : Thread nD τ) arg9 q9 X9 ∗ owns (c : Thread nD τ) arg11 fullShare X11
      ∗ (owns (c : Thread nD τ) arg5 q5 X5 -∗ owns (c : Thread nD τ) arg9 q9 X9 -∗ owns (c : Thread nD τ) arg11 fullShare (accClear X11 v63)
        -∗ K ⟨(Scalar.maxsi (Scalar.subi arg2 1#32) 0#32), (zDiag i X5 X9), k0_pay27, (k0_pay28 (F := F))⟩))
    ⊢ wp frame (wpE (defs₀ (F := F)) 𝒱₀ (c : Thread nD τ) bd) E (k0_part3 i arg3 harg3 arg4 harg4 arg5 harg5 arg6 harg6 arg7 harg7 arg8 harg8 arg9 harg9 arg10 harg10 arg11 harg11 arg2 v63) K := by
  unfold zDiag accClear
  rw [k0_part3_eq_skeleton]; unfold k0_part3_skel
  simp only [Prog.lift, Prog.bind_op, Prog.bind_ret, Prog.pure_eq_ret]
  iintro ⟨H5, H9, H11, Hk⟩
  iapply (wp_load_owns 𝒱₀ (c : Thread nD τ) bd E) $$ H11; iintro H11
  iapply (wp_store_owns 𝒱₀ (c : Thread nD τ) bd E) $$ H11; iintro H11
  iapply (wp_load_owns 𝒱₀ (c : Thread nD τ) bd E) $$ H5; iintro H5
  iapply (wp_load_owns 𝒱₀ (c : Thread nD τ) bd E) $$ H9; iintro H9
  iapply (wp_load_owns 𝒱₀ (c : Thread nD τ) bd E) $$ H5; iintro H5
  iapply (wp_load_owns 𝒱₀ (c : Thread nD τ) bd E) $$ H9; iintro H9
  iapply (wp_load_owns 𝒱₀ (c : Thread nD τ) bd E) $$ H5; iintro H5
  iapply (wp_load_owns 𝒱₀ (c : Thread nD τ) bd E) $$ H9; iintro H9
  iapply (wp_load_owns 𝒱₀ (c : Thread nD τ) bd E) $$ H5; iintro H5
  iapply (wp_load_owns 𝒱₀ (c : Thread nD τ) bd E) $$ H9; iintro H9
  rw [wp_ret]; imodintro
  iapply Hk $$ H5 H9 H11

/-- Part 4 of the body, on memrefs held at what they read. -/
theorem part4_wp (c : Dev nD) (bd : Option ℕ) (E : Set ℕ) (i : grid0.Coords) (arg3 : Memref sig .tc .vmem S256x256 .bf16) (harg3 : arg3.IsWhole) (arg4 : Memref sig .tc .vmem S1x256x512 .bf16) (harg4 : arg4.IsWhole) (arg5 : Memref sig .tc .vmem S1x8192x512 .bf16) (harg5 : arg5.IsWhole) (arg6 : Memref sig .tc .vmem S1x4x32x128x256 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole) (v62 : FVec F S256x256 .bf16) (v68 : BitVec 32) (v91 : FVec F S256x2048 .f32) (v96 : IVec S256x2048 1) (v97 : FVec F S256x2048 .f32) {q5 : PosShare TreeShare} {q9 : PosShare TreeShare} {X5 : Vec F S1x8192x512 .bf16} {X9 : Vec F S2048x128 .bf16}
    (K : (Σ' (v98 : FVec F S256x2048 .f32) (v112 : FVec F S256x2048 .f32) (v119 : FVec F S256x512 .f32) (v124 : FVec F S256x512 .f32) (v129 : FVec F S256x512 .f32), FVec F S256x128 .bf16) → sProp 𝕄) :
    iprop(owns (c : Thread nD τ) arg5 q5 X5 ∗ owns (c : Thread nD τ) arg9 q9 X9
      ∗ (owns (c : Thread nD τ) arg5 q5 X5 -∗ owns (c : Thread nD τ) arg9 q9 X9
        -∗ K ⟨(k0_pay29 v91 v96 v97), (k0_pay30 v62 v91 v96 v97), (zPrev0 i X5 X9), (zPrev1 i X5 X9), (zPrev2 i X5 X9), (kPrev3 i X5)⟩))
    ⊢ wp frame (wpE (defs₀ (F := F)) 𝒱₀ (c : Thread nD τ) bd) E (k0_part4 i arg3 harg3 arg4 harg4 arg5 harg5 arg6 harg6 arg7 harg7 arg8 harg8 arg9 harg9 arg10 harg10 arg11 harg11 v62 v68 v91 v96 v97) K := by
  unfold zPrev0 zPrev1 zPrev2 kPrev3
  rw [k0_part4_eq_skeleton]; unfold k0_part4_skel
  simp only [Prog.lift, Prog.bind_op, Prog.bind_ret, Prog.pure_eq_ret]
  iintro ⟨H5, H9, Hk⟩
  iapply (wp_load_owns 𝒱₀ (c : Thread nD τ) bd E) $$ H5; iintro H5
  iapply (wp_load_owns 𝒱₀ (c : Thread nD τ) bd E) $$ H9; iintro H9
  iapply (wp_load_owns 𝒱₀ (c : Thread nD τ) bd E) $$ H5; iintro H5
  iapply (wp_load_owns 𝒱₀ (c : Thread nD τ) bd E) $$ H9; iintro H9
  iapply (wp_load_owns 𝒱₀ (c : Thread nD τ) bd E) $$ H5; iintro H5
  iapply (wp_load_owns 𝒱₀ (c : Thread nD τ) bd E) $$ H9; iintro H9
  iapply (wp_load_owns 𝒱₀ (c : Thread nD τ) bd E) $$ H5; iintro H5
  rw [wp_ret]; imodintro
  iapply Hk $$ H5 H9

/-- Part 5 of the body, on memrefs held at what they read. -/
theorem part5_wp (c : Dev nD) (bd : Option ℕ) (E : Set ℕ) (i : grid0.Coords) (arg3 : Memref sig .tc .vmem S256x256 .bf16) (harg3 : arg3.IsWhole) (arg4 : Memref sig .tc .vmem S1x256x512 .bf16) (harg4 : arg4.IsWhole) (arg5 : Memref sig .tc .vmem S1x8192x512 .bf16) (harg5 : arg5.IsWhole) (arg6 : Memref sig .tc .vmem S1x4x32x128x256 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole) (arg2 : BitVec 32) (v62 : FVec F S256x256 .bf16) (v98 : FVec F S256x2048 .f32) (v112 : FVec F S256x2048 .f32) (v119 : FVec F S256x512 .f32) (v124 : FVec F S256x512 .f32) (v129 : FVec F S256x512 .f32) (v132 : FVec F S256x128 .bf16) {q6 : PosShare TreeShare} {q9 : PosShare TreeShare} {X6 : Vec F S1x4x32x128x256 .bf16} {X9 : Vec F S2048x128 .bf16} {X11 : Vec F S128x2048 .f32}
    (K : (Σ' (v135 : FVec F S256x2048 .f32) (v149 : FVec F S256x2048 .f32) (v150 : FVec F S1x2048 .f32) (v155 : FVec F S256x2048 .bf16) (v166 : Vec F S128x512 .f32), FVec F S128x256 .bf16) → sProp 𝕄) :
    iprop(owns (c : Thread nD τ) arg6 q6 X6 ∗ owns (c : Thread nD τ) arg9 q9 X9 ∗ owns (c : Thread nD τ) arg11 fullShare X11
      ∗ (owns (c : Thread nD τ) arg6 q6 X6 -∗ owns (c : Thread nD τ) arg9 q9 X9 -∗ owns (c : Thread nD τ) arg11 fullShare (accDiag0 i X6 X11 v98 v112)
        -∗ K ⟨(zPrev X9 v119 v124 v129 v132), (csPrev X9 v62 v119 v124 v129 v132), (k0_pay37 (F := F)), (k0_pay38 v98 v112), (accOne i X6 X11 v98 v112), (vDiagOne i X6)⟩))
    ⊢ wp frame (wpE (defs₀ (F := F)) 𝒱₀ (c : Thread nD τ) bd) E (k0_part5 i arg3 harg3 arg4 harg4 arg5 harg5 arg6 harg6 arg7 harg7 arg8 harg8 arg9 harg9 arg10 harg10 arg11 harg11 arg2 v62 v98 v112 v119 v124 v129 v132) K := by
  unfold zPrev csPrev accOne vDiagOne accDiag0
  rw [k0_part5_eq_skeleton]; unfold k0_part5_skel
  simp only [Prog.lift, Prog.bind_op, Prog.bind_ret, Prog.pure_eq_ret]
  iintro ⟨H6, H9, H11, Hk⟩
  iapply (wp_load_owns 𝒱₀ (c : Thread nD τ) bd E) $$ H9; iintro H9
  iapply (wp_load_owns 𝒱₀ (c : Thread nD τ) bd E) $$ H11; iintro H11
  iapply (wp_load_owns 𝒱₀ (c : Thread nD τ) bd E) $$ H6; iintro H6
  iapply (wp_load_owns 𝒱₀ (c : Thread nD τ) bd E) $$ H11; iintro H11
  iapply (wp_store_owns 𝒱₀ (c : Thread nD τ) bd E) $$ H11; iintro H11
  iapply (wp_load_owns 𝒱₀ (c : Thread nD τ) bd E) $$ H11; iintro H11
  iapply (wp_load_owns 𝒱₀ (c : Thread nD τ) bd E) $$ H6; iintro H6
  rw [wp_ret]; imodintro
  iapply Hk $$ H6 H9 H11

/-- Part 6 of the body, on memrefs held at what they read. -/
theorem part6_wp (c : Dev nD) (bd : Option ℕ) (E : Set ℕ) (i : grid0.Coords) (arg3 : Memref sig .tc .vmem S256x256 .bf16) (harg3 : arg3.IsWhole) (arg4 : Memref sig .tc .vmem S1x256x512 .bf16) (harg4 : arg4.IsWhole) (arg5 : Memref sig .tc .vmem S1x8192x512 .bf16) (harg5 : arg5.IsWhole) (arg6 : Memref sig .tc .vmem S1x4x32x128x256 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole) (arg2 : BitVec 32) (v112 : FVec F S256x2048 .f32) (v135 : FVec F S256x2048 .f32) (v149 : FVec F S256x2048 .f32) (v150 : FVec F S1x2048 .f32) (v155 : FVec F S256x2048 .bf16) (v166 : Vec F S128x512 .f32) (v169 : FVec F S128x256 .bf16) {q6 : PosShare TreeShare} {X6 : Vec F S1x4x32x128x256 .bf16} {X11 : Vec F S128x2048 .f32}
    (K : (Σ' (v201 : FVec F S1x2048 .f32), FVec F S256x2048 .f32) → sProp 𝕄) :
    iprop(owns (c : Thread nD τ) arg6 q6 X6 ∗ owns (c : Thread nD τ) arg11 fullShare X11
      ∗ (owns (c : Thread nD τ) arg6 q6 X6 -∗ owns (c : Thread nD τ) arg11 fullShare (accDiag i X6 X11 v155 v166 v169)
        -∗ K ⟨(k0_pay44 arg2 v112 v150), (k0_pay45 v135 v149)⟩))
    ⊢ wp frame (wpE (defs₀ (F := F)) 𝒱₀ (c : Thread nD τ) bd) E (k0_part6 i arg3 harg3 arg4 harg4 arg5 harg5 arg6 harg6 arg7 harg7 arg8 harg8 arg9 harg9 arg10 harg10 arg11 harg11 arg2 v112 v135 v149 v150 v155 v166 v169) K := by
  unfold accDiag
  rw [k0_part6_eq_skeleton]; unfold k0_part6_skel
  simp only [Prog.lift, Prog.bind_op, Prog.bind_ret, Prog.pure_eq_ret]
  iintro ⟨H6, H11, Hk⟩
  iapply (wp_load_owns 𝒱₀ (c : Thread nD τ) bd E) $$ H11; iintro H11
  iapply (wp_store_owns 𝒱₀ (c : Thread nD τ) bd E) $$ H11; iintro H11
  iapply (wp_load_owns 𝒱₀ (c : Thread nD τ) bd E) $$ H11; iintro H11
  iapply (wp_load_owns 𝒱₀ (c : Thread nD τ) bd E) $$ H6; iintro H6
  iapply (wp_load_owns 𝒱₀ (c : Thread nD τ) bd E) $$ H11; iintro H11
  iapply (wp_store_owns 𝒱₀ (c : Thread nD τ) bd E) $$ H11; iintro H11
  iapply (wp_load_owns 𝒱₀ (c : Thread nD τ) bd E) $$ H11; iintro H11
  iapply (wp_load_owns 𝒱₀ (c : Thread nD τ) bd E) $$ H6; iintro H6
  iapply (wp_load_owns 𝒱₀ (c : Thread nD τ) bd E) $$ H11; iintro H11
  iapply (wp_store_owns 𝒱₀ (c : Thread nD τ) bd E) $$ H11; iintro H11
  rw [wp_ret]; imodintro
  iapply Hk $$ H6 H11

/-- Part 7 of the body, on memrefs held at what they read. -/
theorem part7_wp (c : Dev nD) (bd : Option ℕ) (E : Set ℕ) (i : grid0.Coords) (arg3 : Memref sig .tc .vmem S256x256 .bf16) (harg3 : arg3.IsWhole) (arg4 : Memref sig .tc .vmem S1x256x512 .bf16) (harg4 : arg4.IsWhole) (arg5 : Memref sig .tc .vmem S1x8192x512 .bf16) (harg5 : arg5.IsWhole) (arg6 : Memref sig .tc .vmem S1x4x32x128x256 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole) (v68 : BitVec 32) (v201 : FVec F S1x2048 .f32) (v202 : FVec F S256x2048 .f32) {q6 : PosShare TreeShare} {X6 : Vec F S1x4x32x128x256 .bf16} {X11 : Vec F S128x2048 .f32}
    (K : (Σ' (v206 : FVec F S256x2048 .bf16), FVec F S128x512 .f32) → sProp 𝕄) :
    iprop(owns (c : Thread nD τ) arg6 q6 X6 ∗ owns (c : Thread nD τ) arg11 fullShare X11
      ∗ (owns (c : Thread nD τ) arg6 q6 X6 -∗ owns (c : Thread nD τ) arg11 fullShare (accPrev0 i X6 X11 v201 v202)
        -∗ K ⟨(k0_pay46 v201 v202), (accTwo i X6 X11 v201 v202)⟩))
    ⊢ wp frame (wpE (defs₀ (F := F)) 𝒱₀ (c : Thread nD τ) bd) E (k0_part7 i arg3 harg3 arg4 harg4 arg5 harg5 arg6 harg6 arg7 harg7 arg8 harg8 arg9 harg9 arg10 harg10 arg11 harg11 v68 v201 v202) K := by
  unfold accTwo accPrev0
  rw [k0_part7_eq_skeleton]; unfold k0_part7_skel
  simp only [Prog.lift, Prog.bind_op, Prog.bind_ret, Prog.pure_eq_ret]
  iintro ⟨H6, H11, Hk⟩
  iapply (wp_load_owns 𝒱₀ (c : Thread nD τ) bd E) $$ H11; iintro H11
  iapply (wp_load_owns 𝒱₀ (c : Thread nD τ) bd E) $$ H6; iintro H6
  iapply (wp_load_owns 𝒱₀ (c : Thread nD τ) bd E) $$ H11; iintro H11
  iapply (wp_store_owns 𝒱₀ (c : Thread nD τ) bd E) $$ H11; iintro H11
  iapply (wp_load_owns 𝒱₀ (c : Thread nD τ) bd E) $$ H11; iintro H11
  iapply (wp_load_owns 𝒱₀ (c : Thread nD τ) bd E) $$ H6; iintro H6
  iapply (wp_load_owns 𝒱₀ (c : Thread nD τ) bd E) $$ H11; iintro H11
  iapply (wp_store_owns 𝒱₀ (c : Thread nD τ) bd E) $$ H11; iintro H11
  iapply (wp_load_owns 𝒱₀ (c : Thread nD τ) bd E) $$ H11; iintro H11
  iapply (wp_load_owns 𝒱₀ (c : Thread nD τ) bd E) $$ H6; iintro H6
  rw [wp_ret]; imodintro
  iapply Hk $$ H6 H11

/-- Part 9 of the body, on memrefs held at what they read. -/
theorem part9_wp (c : Dev nD) (bd : Option ℕ) (E : Set ℕ) (i : grid0.Coords) (arg3 : Memref sig .tc .vmem S256x256 .bf16) (harg3 : arg3.IsWhole) (arg4 : Memref sig .tc .vmem S1x256x512 .bf16) (harg4 : arg4.IsWhole) (arg5 : Memref sig .tc .vmem S1x8192x512 .bf16) (harg5 : arg5.IsWhole) (arg6 : Memref sig .tc .vmem S1x4x32x128x256 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole) (v260 : IVec S128x256 1) (v268 : FVec F S256x128 .f32) {q7 : PosShare TreeShare} {q11 : PosShare TreeShare} {X7 : Vec F S1x256x512 .bf16} {X8 : Vec F S1x256x512 .bf16} {X11 : Vec F S128x2048 .f32}
    (K : (Σ' (v297 : Vec F S128x256 .f32), Vec F S128x256 .f32) → sProp 𝕄) :
    iprop(owns (c : Thread nD τ) arg7 q7 X7 ∗ owns (c : Thread nD τ) arg8 fullShare X8 ∗ owns (c : Thread nD τ) arg11 q11 X11
      ∗ (owns (c : Thread nD τ) arg7 q7 X7 -∗ owns (c : Thread nD τ) arg8 fullShare (outLow X7 X8 X11 v260 v268) -∗ owns (c : Thread nD τ) arg11 q11 X11
        -∗ K ⟨(accLeft X11), (accRight X11)⟩))
    ⊢ wp frame (wpE (defs₀ (F := F)) 𝒱₀ (c : Thread nD τ) bd) E (k0_part9 i arg3 harg3 arg4 harg4 arg5 harg5 arg6 harg6 arg7 harg7 arg8 harg8 arg9 harg9 arg10 harg10 arg11 harg11 v260 v268) K := by
  unfold accLeft accRight outLow
  rw [k0_part9_eq_skeleton]; unfold k0_part9_skel
  simp only [Prog.lift, Prog.bind_op, Prog.bind_ret, Prog.pure_eq_ret]
  iintro ⟨H7, H8, H11, Hk⟩
  iapply (wp_load_owns 𝒱₀ (c : Thread nD τ) bd E) $$ H8; iintro H8
  iapply (wp_store_owns 𝒱₀ (c : Thread nD τ) bd E) $$ H8; iintro H8
  iapply (wp_load_owns 𝒱₀ (c : Thread nD τ) bd E) $$ H11; iintro H11
  iapply (wp_load_owns 𝒱₀ (c : Thread nD τ) bd E) $$ H11; iintro H11
  iapply (wp_load_owns 𝒱₀ (c : Thread nD τ) bd E) $$ H7; iintro H7
  iapply (wp_load_owns 𝒱₀ (c : Thread nD τ) bd E) $$ H8; iintro H8
  iapply (wp_store_owns 𝒱₀ (c : Thread nD τ) bd E) $$ H8; iintro H8
  iapply (wp_load_owns 𝒱₀ (c : Thread nD τ) bd E) $$ H11; iintro H11
  iapply (wp_load_owns 𝒱₀ (c : Thread nD τ) bd E) $$ H11; iintro H11
  iapply (wp_load_owns 𝒱₀ (c : Thread nD τ) bd E) $$ H7; iintro H7
  iapply (wp_load_owns 𝒱₀ (c : Thread nD τ) bd E) $$ H8; iintro H8
  iapply (wp_store_owns 𝒱₀ (c : Thread nD τ) bd E) $$ H8; iintro H8
  iapply (wp_load_owns 𝒱₀ (c : Thread nD τ) bd E) $$ H11; iintro H11
  iapply (wp_load_owns 𝒱₀ (c : Thread nD τ) bd E) $$ H11; iintro H11
  rw [wp_ret]; imodintro
  iapply Hk $$ H7 H8 H11

/-- Part 1 of a trip, on memrefs held at what they read. -/
theorem part10_wp (c : Dev nD) (bd : Option ℕ) (E : Set ℕ) (i : grid0.Coords) (arg5 : Memref sig .tc .vmem S1x8192x512 .bf16) (harg5 : arg5.IsWhole) (arg9 : Memref sig .tc .vmem S2048x128 .bf16) (harg9 : arg9.IsWhole) (v62 : FVec F S256x256 .bf16) (arg10 : Memref sig .tc .vmem S1x2048 .f32) (harg10 : arg10.IsWhole) (arg11 : Memref sig .tc .vmem S128x2048 .f32) (harg11 : arg11.IsWhole) (arg6 : Memref sig .tc .vmem S1x4x32x128x256 .bf16) (harg6 : arg6.IsWhole) (arg12 : BitVec 32) (arg13 : BitVec 1) (arg2 : BitVec 32) (h1 : k0_chk1 i arg12) {q5 : PosShare TreeShare} {q9 : PosShare TreeShare} {X5 : Vec F S1x8192x512 .bf16} {X9 : Vec F S2048x128 .bf16}
    (K : (Σ' (h1 : k0_chk1 i arg12) (v310 : BitVec 32) (v333 : FVec F S256x2048 .f32) (v335 : FVec F S256x2048 .f32), FVec F S256x2048 .f32) → sProp 𝕄) :
    iprop(owns (c : Thread nD τ) arg5 q5 X5 ∗ owns (c : Thread nD τ) arg9 q9 X9
      ∗ (owns (c : Thread nD τ) arg5 q5 X5 -∗ owns (c : Thread nD τ) arg9 q9 X9
        -∗ K ⟨h1, (Scalar.subi (Scalar.subi arg2 2#32) arg12), (zLoop i arg12 h1 X5 X9), (absLoop i arg12 h1 X5 X9), (softLoop i arg12 h1 X5 X9)⟩))
    ⊢ wp frame (wpE (defs₀ (F := F)) 𝒱₀ (c : Thread nD τ) bd) E (k0_part10 i arg5 harg5 arg9 harg9 v62 arg10 harg10 arg11 harg11 arg6 harg6 arg12 arg13 arg2) K := by
  unfold zLoop absLoop softLoop
  rw [k0_part10_eq_skeleton]; unfold k0_part10_skel
  simp only [Prog.lift, Prog.bind_op, Prog.bind_ret, Prog.pure_eq_ret]
  iintro ⟨H5, H9, Hk⟩
  iapply (wp_assume 𝒱₀ (c : Thread nD τ) bd E h1)
  iapply (wp_load_owns 𝒱₀ (c : Thread nD τ) bd E) $$ H5; iintro H5
  iapply (wp_load_owns 𝒱₀ (c : Thread nD τ) bd E) $$ H9; iintro H9
  iapply (wp_load_owns 𝒱₀ (c : Thread nD τ) bd E) $$ H5; iintro H5
  iapply (wp_load_owns 𝒱₀ (c : Thread nD τ) bd E) $$ H9; iintro H9
  iapply (wp_load_owns 𝒱₀ (c : Thread nD τ) bd E) $$ H5; iintro H5
  iapply (wp_load_owns 𝒱₀ (c : Thread nD τ) bd E) $$ H9; iintro H9
  iapply (wp_load_owns 𝒱₀ (c : Thread nD τ) bd E) $$ H5; iintro H5
  iapply (wp_load_owns 𝒱₀ (c : Thread nD τ) bd E) $$ H9; iintro H9
  rw [wp_ret]; imodintro
  iapply Hk $$ H5 H9

/-- Part 2 of a trip, on memrefs held at what they read. -/
theorem part11_wp (c : Dev nD) (bd : Option ℕ) (E : Set ℕ) (i : grid0.Coords) (arg5 : Memref sig .tc .vmem S1x8192x512 .bf16) (harg5 : arg5.IsWhole) (arg9 : Memref sig .tc .vmem S2048x128 .bf16) (harg9 : arg9.IsWhole) (v62 : FVec F S256x256 .bf16) (arg10 : Memref sig .tc .vmem S1x2048 .f32) (harg10 : arg10.IsWhole) (arg11 : Memref sig .tc .vmem S128x2048 .f32) (harg11 : arg11.IsWhole) (arg6 : Memref sig .tc .vmem S1x4x32x128x256 .bf16) (harg6 : arg6.IsWhole) (arg12 : BitVec 32) (arg13 : BitVec 1) (h1 : k0_chk1 i arg12) (v310 : BitVec 32) (v333 : FVec F S256x2048 .f32) (v335 : FVec F S256x2048 .f32) (v342 : FVec F S256x2048 .f32) {q6 : PosShare TreeShare} {q10 : PosShare TreeShare} {X6 : Vec F S1x4x32x128x256 .bf16} {X10 : Vec F S1x2048 .f32} {X11 : Vec F S128x2048 .f32}
    (K : (Σ' (v347 : FVec F S256x2048 .f32) (v348 : Vec F S1x2048 .f32) (v353 : FVec F S256x2048 .bf16), Vec F S128x512 .f32) → sProp 𝕄) :
    iprop(owns (c : Thread nD τ) arg6 q6 X6 ∗ owns (c : Thread nD τ) arg10 q10 X10 ∗ owns (c : Thread nD τ) arg11 fullShare X11
      ∗ (owns (c : Thread nD τ) arg6 q6 X6 -∗ owns (c : Thread nD τ) arg10 q10 X10 -∗ owns (c : Thread nD τ) arg11 fullShare (accLoop0 i arg12 h1 X6 X10 X11 v62 v333 v335 v342)
        -∗ K ⟨(k0_pay63 v62 v335 v342), (runRead X10), (wLoop X10 v62 v333 v335 v342), (accLoopTwo i arg12 h1 X6 X10 X11 v62 v333 v335 v342)⟩))
    ⊢ wp frame (wpE (defs₀ (F := F)) 𝒱₀ (c : Thread nD τ) bd) E (k0_part11 i arg5 harg5 arg9 harg9 v62 arg10 harg10 arg11 harg11 arg6 harg6 arg12 arg13 h1 v310 v333 v335 v342) K := by
  unfold runRead wLoop accLoopTwo accLoop0
  rw [k0_part11_eq_skeleton]; unfold k0_part11_skel
  simp only [Prog.lift, Prog.bind_op, Prog.bind_ret, Prog.pure_eq_ret]
  iintro ⟨H6, H10, H11, Hk⟩
  iapply (wp_load_owns 𝒱₀ (c : Thread nD τ) bd E) $$ H10; iintro H10
  iapply (wp_load_owns 𝒱₀ (c : Thread nD τ) bd E) $$ H11; iintro H11
  iapply (wp_load_owns 𝒱₀ (c : Thread nD τ) bd E) $$ H6; iintro H6
  iapply (wp_load_owns 𝒱₀ (c : Thread nD τ) bd E) $$ H11; iintro H11
  iapply (wp_store_owns 𝒱₀ (c : Thread nD τ) bd E) $$ H11; iintro H11
  iapply (wp_load_owns 𝒱₀ (c : Thread nD τ) bd E) $$ H11; iintro H11
  iapply (wp_load_owns 𝒱₀ (c : Thread nD τ) bd E) $$ H6; iintro H6
  iapply (wp_load_owns 𝒱₀ (c : Thread nD τ) bd E) $$ H11; iintro H11
  iapply (wp_store_owns 𝒱₀ (c : Thread nD τ) bd E) $$ H11; iintro H11
  iapply (wp_load_owns 𝒱₀ (c : Thread nD τ) bd E) $$ H11; iintro H11
  rw [wp_ret]; imodintro
  iapply Hk $$ H6 H10 H11

end Cert.KernelIdeal.Stick

end
-- ==== Proof.PointI.lean ====
/-
  The kernel's body at one grid point: the diagonal block, the previous block, the loop over the earlier blocks and the
  gated result, as one function of what the memrefs read, and the run that leaves it.
-/
module

public import proofs.«01_k».proof.Proof.StepsI
public import proofs.«01_k».proof.Proof.Gen.KernelIdeal.Skeleton
public import Idealize.ShloMosaic.Lib.Pipeline.Kit

@[expose] public section

noncomputable section

namespace Cert.KernelIdeal.Stick

open Cert.KernelIdeal Cert.KernelIdeal.Gen Cert.Stick

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The last stores -/

/-- The accumulator after the previous block, further head pairs. -/
def accPrev (i : grid0.Coords) (X6 : Vec F S1x4x32x128x256 .bf16) (X11 : Vec F S128x2048 .f32) (v206 : FVec F S256x2048 .bf16) (v233 : FVec F S128x512 .f32) : Vec F S128x2048 .f32 :=
  (upU (s := S128x2048) ![0, 1536] S128x512.size inb_S128x2048_S128x512_0_1536 (upU (s := S128x2048) ![0, 1024] S128x512.size inb_S128x2048_S128x512_0_1024 X11 (k0_pay50 v233)) (k0_pay51 v206 (rdU (s := S128x2048) ![0, 1536] S128x512.size inb_S128x2048_S128x512_0_1536 (upU (s := S128x2048) ![0, 1024] S128x512.size inb_S128x2048_S128x512_0_1024 X11 (k0_pay50 v233))) (rdU (s := S1x4x32x128x256) (k0_off16 i) S1x1x1x128x256.size (k0_off16_inb i) X6)))

/-- The running total after the previous block. -/
def runPrev (X10 : Vec F S1x2048 .f32) (v149 : FVec F S256x2048 .f32) (v201 : FVec F S1x2048 .f32) : Vec F S1x2048 .f32 :=
  (upU (s := S1x2048) ![0, 0] S1x2048.size inb_S1x2048_S1x2048_0_0 X10 (k0_pay53 v149 v201))

/-- The result of the first head pair, gated. -/
def outZero (X7 : Vec F S1x256x512 .bf16) (X11 : Vec F S128x2048 .f32) : FVec F S256x128 .f32 :=
  k0_pay56 (rdU (s := S128x2048) ![0, 0] S128x256.size inb_S128x2048_S128x256_0_0 X11) (rdU (s := S128x2048) ![0, 256] S128x256.size inb_S128x2048_S128x256_0_256 X11) (rdU (s := S1x256x512) ![0, 0, 0] S1x256x128.size inb_S1x256x512_S1x256x128_0_0_0 X7)

/-- The accumulator in a trip, after the further head pairs. -/
def accLoop (i : grid0.Coords) (arg12 : BitVec 32) (h1 : k0_chk1 i arg12) (X6 : Vec F S1x4x32x128x256 .bf16) (X11 : Vec F S128x2048 .f32) (v353 : FVec F S256x2048 .bf16) (v374 : Vec F S128x512 .f32) : Vec F S128x2048 .f32 :=
  (upU (s := S128x2048) ![0, 1536] S128x512.size inb_S128x2048_S128x512_0_1536 (upU (s := S128x2048) ![0, 1024] S128x512.size inb_S128x2048_S128x512_0_1024 X11 (k0_pay2 v353 v374 (rdU (s := S1x4x32x128x256) (k0_off23 i arg12) S1x1x1x128x256.size (k0_off23_inb i arg12 h1) X6))) (k0_pay3 v353 (rdU (s := S128x2048) ![0, 1536] S128x512.size inb_S128x2048_S128x512_0_1536 (upU (s := S128x2048) ![0, 1024] S128x512.size inb_S128x2048_S128x512_0_1024 X11 (k0_pay2 v353 v374 (rdU (s := S1x4x32x128x256) (k0_off23 i arg12) S1x1x1x128x256.size (k0_off23_inb i arg12 h1) X6)))) (rdU (s := S1x4x32x128x256) (k0_off24 i arg12) S1x1x1x128x256.size (k0_off24_inb i arg12 h1) X6)))

/-- The running total after a trip. -/
def runLoop (X10 : Vec F S1x2048 .f32) (v347 : FVec F S256x2048 .f32) (v348 : Vec F S1x2048 .f32) : Vec F S1x2048 .f32 :=
  (upU (s := S1x2048) ![0, 0] S1x2048.size inb_S1x2048_S1x2048_0_0 X10 (k0_pay5 v347 v348))

/-- The result block after its last store. -/
def outAll (X7 : Vec F S1x256x512 .bf16) (X8 : Vec F S1x256x512 .bf16) (v260 : IVec S128x256 1) (v297 : Vec F S128x256 .f32) (v298 : Vec F S128x256 .f32) : Vec F S1x256x512 .bf16 :=
  (upU (s := S1x256x512) ![0, 0, 384] S1x256x128.size inb_S1x256x512_S1x256x128_0_0_384 X8 (k0_pay1 v260 v297 v298 (rdU (s := S1x256x512) ![0, 0, 384] S1x256x128.size inb_S1x256x512_S1x256x128_0_0_384 X7)))

/-- The bound the running total is tested against. -/
abbrev bound : F .f32 := Named.named κ "underflow" 0x43170000#32

/-! ## One trip of the loop -/

section Trip

variable (i : grid0.Coords) (jj : BitVec 32) (h : k0_chk1 i jj) (X5 : Vec F S1x8192x512 .bf16) (X6 : Vec F S1x4x32x128x256 .bf16) (X9 : Vec F S2048x128 .bf16) (T : FVec F S256x256 .bf16)

/-- Suffix sums of the softplus of the block of a trip. -/
def tripCs : FVec F S256x2048 .f32 := k0_pay63 T (absLoop i jj h X5 X9) (softLoop i jj h X5 X9)

/-- The running total after a trip. -/
def tripRun (R : Vec F S1x2048 .f32) : Vec F S1x2048 .f32 := runLoop R (tripCs i jj h X5 X9 T) (runRead R)

/-- The accumulator after a trip. -/
def tripAcc (R : Vec F S1x2048 .f32) (A : Vec F S128x2048 .f32) : Vec F S128x2048 .f32 :=
  accLoop i jj h X6 (accLoop0 i jj h X6 R A T (zLoop i jj h X5 X9) (absLoop i jj h X5 X9) (softLoop i jj h X5 X9))
    (wLoop R T (zLoop i jj h X5 X9) (absLoop i jj h X5 X9) (softLoop i jj h X5 X9))
    (accLoopTwo i jj h X6 R A T (zLoop i jj h X5 X9) (absLoop i jj h X5 X9) (softLoop i jj h X5 X9))

/-- Whether a trip's running total is still under the bound somewhere. -/
def tripFlag (R : Vec F S1x2048 .f32) : BitVec 1 := Scalar.cmpf .olt (k0_pay6 (tripCs i jj h X5 X9 T) (runRead R)) bound

end Trip

/-! ## The loop -/

/-- The word of the block a trip reads. -/
theorem block_word (a k : ℕ) (ha : a < 32) (hk : k + 1 < a) :
    IntOp.subi (IntOp.subi (BitVec.ofNat 32 a) 2#32) (BitVec.ofNat 32 k) = BitVec.ofNat 32 (a - 2 - k) := by
  unfold IntOp.subi
  apply BitVec.eq_of_toNat_eq
  simp only [BitVec.toNat_sub, BitVec.toNat_ofNat]
  omega

/-- The coordinate of the query block is below 32. -/
theorem coord_lt (i : grid0.Coords) : (i 2).val < 32 := (i 2).isLt

/-- The block a trip reads lies inside the arrays. -/
theorem chk_of_lt (i : grid0.Coords) (k : ℕ) (hk : k + 1 < (i 2).val) : k0_chk1 i (BitVec.ofNat 32 k) := by
  have h32 := coord_lt i
  have hw := block_word (i 2).val k h32 hk
  have hm : (IntOp.muli (BitVec.ofNat 32 ((i 2).val - 2 - k)) 256#32).toNat = ((i 2).val - 2 - k) * 256 := by
    unfold IntOp.muli
    simp only [BitVec.toNat_mul, BitVec.toNat_ofNat]
    omega
  have hn : (BitVec.ofNat 32 ((i 2).val - 2 - k)).toNat = (i 2).val - 2 - k := by
    simp only [BitVec.toNat_ofNat]
    omega
  refine ⟨?_, ?_, ?_, ?_, ?_, ?_, ?_, ?_, ?_⟩
  · simp only [k0_mult3, Scalar.subi, Scalar.muli, Scalar.indexCast, hw, hm]
    exact Dvd.intro_left _ rfl
  all_goals
    intro a
    simp only [k0_off17, k0_off18, k0_off19, k0_off20, k0_off21, k0_off22, k0_off23, k0_off24, Scalar.subi, Scalar.muli, Scalar.indexCast, hw, hm, hn]
    fin_cases a <;> simp <;> omega

/-- The running total and the accumulator after the loop, from `n` trips still to run after `k`. -/
def loopF (i : grid0.Coords) (X5 : Vec F S1x8192x512 .bf16) (X6 : Vec F S1x4x32x128x256 .bf16) (X9 : Vec F S2048x128 .bf16) (T : FVec F S256x256 .bf16) :
    (n k : ℕ) → n + k = (i 2).val - 1 → BitVec 1 → Vec F S1x2048 .f32 → Vec F S128x2048 .f32 → Vec F S1x2048 .f32 × Vec F S128x2048 .f32
  | 0, _, _, _, R, A => (R, A)
  | n + 1, k, e, b, R, A =>
    if b = 1#1 then
      loopF i X5 X6 X9 T n (k + 1) (by omega) (tripFlag i (BitVec.ofNat 32 k) (chk_of_lt i k (by omega)) X5 X9 T R)
        (tripRun i (BitVec.ofNat 32 k) (chk_of_lt i k (by omega)) X5 X9 T R)
        (tripAcc i (BitVec.ofNat 32 k) (chk_of_lt i k (by omega)) X5 X6 X9 T R A)
    else (R, A)

/-- The loop's test with no trip left. -/
theorem test_done (a k : ℕ) (ha : a < 32) (hk : 0 + k = a - 1) (b : BitVec 1) :
    ¬Scalar.andi (Scalar.cmpi .slt (BitVec.ofNat 32 k) (Scalar.subi (BitVec.ofNat 32 a) 1#32)) b = 1#1 := by
  obtain rfl : k = a - 1 := by omega
  revert b a
  decide

/-- The loop's test with trips left is the flag. -/
theorem test_more (a k n : ℕ) (ha : a < 32) (hk : n + 1 + k = a - 1) (b : BitVec 1) :
    Scalar.andi (Scalar.cmpi .slt (BitVec.ofNat 32 k) (Scalar.subi (BitVec.ofNat 32 a) 1#32)) b = 1#1 ↔ b = 1#1 := by
  have h : Scalar.cmpi .slt (BitVec.ofNat 32 k) (Scalar.subi (BitVec.ofNat 32 a) 1#32) = 1#1 := by
    have key : ∀ a < 32, ∀ k < 32, k + 1 < a → Scalar.cmpi .slt (BitVec.ofNat 32 k) (Scalar.subi (BitVec.ofNat 32 a) 1#32) = 1#1 := by decide
    exact key a ha k (by omega) (by omega)
  rw [h]
  revert b
  decide

/-- The counter's step. -/
theorem counter_succ (k : ℕ) : Scalar.addi (BitVec.ofNat 32 k) 1#32 = BitVec.ofNat 32 (k + 1) := by
  unfold Scalar.addi IntOp.addi
  rw [BitVec.ofNat_add]

section Loop

variable (c : Dev nD) (i : grid0.Coords) (arg5 : Memref sig .tc .vmem S1x8192x512 .bf16) (harg5 : arg5.IsWhole) (arg6 : Memref sig .tc .vmem S1x4x32x128x256 .bf16) (harg6 : arg6.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole)
  (q5 q6 q9 : PosShare TreeShare) (X5 : Vec F S1x8192x512 .bf16) (X6 : Vec F S1x4x32x128x256 .bf16) (X9 : Vec F S2048x128 .bf16) (T : FVec F S256x256 .bf16)

/-- The memrefs the loop reads and writes, at their contents. -/
def held (R : Vec F S1x2048 .f32) (A : Vec F S128x2048 .f32) : sProp 𝕄 :=
  iprop(owns (c : Thread nD τ) arg5 q5 X5 ∗ owns (c : Thread nD τ) arg6 q6 X6 ∗ owns (c : Thread nD τ) arg9 q9 X9
    ∗ owns (c : Thread nD τ) arg10 fullShare R ∗ owns (c : Thread nD τ) arg11 fullShare A)

/-- The loop with `n` trips to run after `k`: it returns some counter and flag, the running total and the accumulator
    at `loopF`. -/
def spec (n k : ℕ) (e : n + k = (i 2).val - 1) (b : BitVec 1) (R : Vec F S1x2048 .f32) (A : Vec F S128x2048 .f32) :
    sWPT 𝕄 (BitVec 32 × BitVec 1) := do
  sWPT.consume (held c arg5 arg6 arg9 arg10 arg11 q5 q6 q9 X5 X6 X9 R A)
  let r ← sWPT.arbitrary
  sWPT.produce (held c arg5 arg6 arg9 arg10 arg11 q5 q6 q9 X5 X6 X9 (loopF i X5 X6 X9 T n k e b R A).1 (loopF i X5 X6 X9 T n k e b R A).2)
  pure r

theorem spec_apply (n k : ℕ) (e : n + k = (i 2).val - 1) (b : BitVec 1) (R : Vec F S1x2048 .f32) (A : Vec F S128x2048 .f32)
    (K : BitVec 32 × BitVec 1 → sProp 𝕄) :
    spec c i arg5 arg6 arg9 arg10 arg11 q5 q6 q9 X5 X6 X9 T n k e b R A K
      = iprop(held c arg5 arg6 arg9 arg10 arg11 q5 q6 q9 X5 X6 X9 R A ∗ ∀ r : BitVec 32 × BitVec 1,
          (held c arg5 arg6 arg9 arg10 arg11 q5 q6 q9 X5 X6 X9 (loopF i X5 X6 X9 T n k e b R A).1 (loopF i X5 X6 X9 T n k e b R A).2 -∗ K r)) := rfl

/-- The loop's label meets its specification, by induction on the trips to run. -/
theorem spec_le (E : Set ℕ) : ∀ n k (e : n + k = (i 2).val - 1) (b : BitVec 1) R A K,
    spec c i arg5 arg6 arg9 arg10 arg11 q5 q6 q9 X5 X6 X9 T n k e b R A K
      ⊢ wp frame (wpE (defs₀ (F := F)) 𝒱₀ (c : Thread nD τ) (some n)) E
          (defs₀ (F := F) .tc 1 ⟨i, arg5, harg5, arg9, harg9, T, arg10, harg10, arg11, harg11, arg6, harg6, BitVec.ofNat 32 k, b⟩) K := by
  have h32 := coord_lt i
  intro n
  induction n with
  | zero =>
    intro k e b R A K
    rw [spec_apply]
    show _ ⊢ wp frame (wpE (defs₀ (F := F)) 𝒱₀ (c : Thread nD τ) (some 0)) E
      (cc0_while1 i arg5 harg5 arg9 harg9 T arg10 harg10 arg11 harg11 arg6 harg6 (BitVec.ofNat 32 k) b) K
    rw [cc0_while1_eq_skeleton]; unfold cc0_while1_skel
    have htest := test_done (i 2).val k h32 e b
    simp only [htest, ↓reduceIte, Prog.pure_eq_ret]
    iintro ⟨H, Hk⟩
    rw [wp_ret]; imodintro
    iapply Hk
    simp only [loopF]; iexact H
  | succ n ih =>
    intro k e b R A K
    rw [spec_apply]
    show _ ⊢ wp frame (wpE (defs₀ (F := F)) 𝒱₀ (c : Thread nD τ) (some (n + 1))) E
      (cc0_while1 i arg5 harg5 arg9 harg9 T arg10 harg10 arg11 harg11 arg6 harg6 (BitVec.ofNat 32 k) b) K
    rw [cc0_while1_eq_skeleton]; unfold cc0_while1_skel
    have htest := test_more (i 2).val k n h32 e b
    by_cases hb : b = 1#1
    · have hpos := htest.mpr hb
      subst hb
      simp only [hpos, ↓reduceIte]
      rw [wp_bind]
      unfold held
      iintro ⟨⟨H5, H6, H9, H10, H11⟩, Hk⟩
      iapply (part10_wp c (some (n + 1)) E i arg5 harg5 arg9 harg9 T arg10 harg10 arg11 harg11 arg6 harg6 (BitVec.ofNat 32 k) 1#1 _ (chk_of_lt i k (by omega)))
      isplitl [H5]; · iexact H5
      isplitl [H9]; · iexact H9
      iintro H5 H9
      dsimp only
      rw [wp_bind]
      iapply (part11_wp c (some (n + 1)) E i arg5 harg5 arg9 harg9 T arg10 harg10 arg11 harg11 arg6 harg6 (BitVec.ofNat 32 k) 1#1 (chk_of_lt i k (by omega)))
      isplitl [H6]; · iexact H6
      isplitl [H10]; · iexact H10
      isplitl [H11]; · iexact H11
      iintro H6 H10 H11
      simp only [Prog.lift, Prog.bind_op, Prog.bind_ret, Prog.pure_eq_ret]
      iapply (wp_load_owns 𝒱₀ (c : Thread nD τ) (some (n + 1)) E) $$ H6; iintro H6
      iapply (wp_load_owns 𝒱₀ (c : Thread nD τ) (some (n + 1)) E) $$ H11; iintro H11
      iapply (wp_store_owns 𝒱₀ (c : Thread nD τ) (some (n + 1)) E) $$ H11; iintro H11
      iapply (wp_load_owns 𝒱₀ (c : Thread nD τ) (some (n + 1)) E) $$ H11; iintro H11
      iapply (wp_load_owns 𝒱₀ (c : Thread nD τ) (some (n + 1)) E) $$ H6; iintro H6
      iapply (wp_load_owns 𝒱₀ (c : Thread nD τ) (some (n + 1)) E) $$ H11; iintro H11
      iapply (wp_store_owns 𝒱₀ (c : Thread nD τ) (some (n + 1)) E) $$ H11; iintro H11
      iapply (wp_load_owns 𝒱₀ (c : Thread nD τ) (some (n + 1)) E) $$ H10; iintro H10
      iapply (wp_store_owns 𝒱₀ (c : Thread nD τ) (some (n + 1)) E) $$ H10; iintro H10
      rw [counter_succ]
      iapply (wp_call_spec 𝒱₀ (c : Thread nD τ) (some (n + 1)) E
        (spec c i arg5 arg6 arg9 arg10 arg11 q5 q6 q9 X5 X6 X9 T n (k + 1) (by omega) (tripFlag i (BitVec.ofNat 32 k) (chk_of_lt i k (by omega)) X5 X9 T R)
          (tripRun i (BitVec.ofNat 32 k) (chk_of_lt i k (by omega)) X5 X9 T R)
          (tripAcc i (BitVec.ofNat 32 k) (chk_of_lt i k (by omega)) X5 X6 X9 T R A)) n
        (fun u hu => by cases hu; exact Nat.lt_succ_self n) (ih _ _ _ _ _))
      rw [spec_apply]; unfold held
      isplitl [H5 H6 H9 H10 H11]
      · isplitl [H5]; · iexact H5
        isplitl [H6]; · iexact H6
        isplitl [H9]; · iexact H9
        isplitl [H10]; · iexact H10
        iexact H11
      iintro %r H
      rw [wp_ret]; imodintro
      iapply Hk
      rw [loopF, if_pos rfl]
      iexact H
    · simp only [htest, hb, ↓reduceIte, Prog.pure_eq_ret]
      iintro ⟨H, Hk⟩
      rw [wp_ret]; imodintro
      iapply Hk
      rw [loopF, if_neg hb]
      iexact H

end Loop

/-! ## The blocks before the loop and the result after it -/

section Point

variable (i : grid0.Coords) (X3 : Vec F S256x256 .bf16) (X4 : Vec F S1x256x512 .bf16) (X5 : Vec F S1x8192x512 .bf16) (X6 : Vec F S1x4x32x128x256 .bf16) (X7 : Vec F S1x256x512 .bf16) (X8 : Vec F S1x256x512 .bf16) (X9 : Vec F S2048x128 .bf16) (X10 : Vec F S1x2048 .f32) (X11 : Vec F S128x2048 .f32)

/-- The masked query rows of a point. -/
def qsAll : Vec F S2048x128 .bf16 := qsHigh X4 (qsLow X4 X9) (iota .tc S256x128 32 [1] iota_S256x128_d1_w32)

/-- Scores of the diagonal block under the mask. -/
def zM (Q : Vec F S2048x128 .bf16) : FVec F S256x2048 .f32 := k0_pay29 (zDiag i X5 Q) k0_pay27 (k0_pay28 (F := F))

/-- Suffix sums of the softplus of the diagonal block. -/
def csD (Q : Vec F S2048x128 .bf16) (T : FVec F S256x256 .bf16) : FVec F S256x2048 .f32 := k0_pay30 T (zDiag i X5 Q) k0_pay27 (k0_pay28 (F := F))

/-- Scores of the previous block. -/
def zP (Q : Vec F S2048x128 .bf16) : FVec F S256x2048 .f32 := zPrev Q (zPrev0 i X5 Q) (zPrev1 i X5 Q) (zPrev2 i X5 Q) (kPrev3 i X5)

/-- Suffix sums of the softplus of the previous block. -/
def csP (Q : Vec F S2048x128 .bf16) (T : FVec F S256x256 .bf16) : FVec F S256x2048 .f32 :=
  csPrev Q T (zPrev0 i X5 Q) (zPrev1 i X5 Q) (zPrev2 i X5 Q) (kPrev3 i X5)

/-- The accumulator after the diagonal block, of scores `z` and suffix sums `s`. -/
def accD (z s : FVec F S256x2048 .f32) : Vec F S128x2048 .f32 :=
  accDiag i X6 (accDiag0 i X6 (accClear X11 (k0_pay24 (F := F))) z s) (k0_pay38 z s) (accOne i X6 (accClear X11 (k0_pay24 (F := F))) z s) (vDiagOne i X6)

/-- The running total after the diagonal block. -/
def runD (s : FVec F S256x2048 .f32) : FVec F S1x2048 .f32 := k0_pay44 (BitVec.ofNat 32 (i 2).val) s (k0_pay37 (F := F))

/-- The accumulator after the previous block, of running total `r` and scores less suffix sums `d`. -/
def accP (A : Vec F S128x2048 .f32) (r : FVec F S1x2048 .f32) (d : FVec F S256x2048 .f32) : Vec F S128x2048 .f32 :=
  accPrev i X6 (accPrev0 i X6 A r d) (k0_pay46 r d) (accTwo i X6 A r d)

/-- Whether the running total after the previous block is under the bound somewhere. -/
def flagP (s : FVec F S256x2048 .f32) (r : FVec F S1x2048 .f32) : BitVec 1 := Scalar.cmpf .olt (k0_pay54 s r) bound

/-- The result block from the accumulator. -/
def outF (A : Vec F S128x2048 .f32) : Vec F S1x256x512 .bf16 :=
  outAll X7 (outLow X7 X8 A k0_pay55 (outZero X7 A)) k0_pay55 (accLeft A) (accRight A)

/-- The running total and the accumulator after all blocks, from the masked query rows and the triangle. -/
def allF (Q : Vec F S2048x128 .bf16) (T : FVec F S256x256 .bf16) : Vec F S1x2048 .f32 × Vec F S128x2048 .f32 :=
  loopF i X5 X6 Q T ((i 2).val - 1) 0 rfl (flagP (csP i X5 Q T) (runD i (csD i X5 Q T)))
    (runPrev X10 (csP i X5 Q T) (runD i (csD i X5 Q T)))
    (accP i X6 (accD i X6 X11 (zM i X5 Q) (csD i X5 Q T)) (runD i (csD i X5 Q T)) (k0_pay45 (zP i X5 Q) (csP i X5 Q T)))

/-- The result block of a point. -/
def pointOut : Vec F S1x256x512 .bf16 :=
  outF X7 X8 (allF i X5 X6 X10 X11 (qsAll X4 X9) (triT X3)).2

end Point

/-- The last part before the result: the previous block's last stores, the loop, the first head pair's result. -/
theorem part8_wp (c : Dev nD) (E : Set ℕ) (i : grid0.Coords) (arg3 : Memref sig .tc .vmem S256x256 .bf16) (harg3 : arg3.IsWhole) (arg4 : Memref sig .tc .vmem S1x256x512 .bf16) (harg4 : arg4.IsWhole) (arg5 : Memref sig .tc .vmem S1x8192x512 .bf16) (harg5 : arg5.IsWhole) (arg6 : Memref sig .tc .vmem S1x4x32x128x256 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole) (v62 : FVec F S256x256 .bf16) (v68 : BitVec 32) (v149 : FVec F S256x2048 .f32) (v201 : FVec F S1x2048 .f32) (v206 : FVec F S256x2048 .bf16) (v233 : FVec F S128x512 .f32)
    {q5 q6 q7 q9 : PosShare TreeShare} (X5 : Vec F S1x8192x512 .bf16) (X6 : Vec F S1x4x32x128x256 .bf16) (X7 : Vec F S1x256x512 .bf16) (X9 : Vec F S2048x128 .bf16) (X10 : Vec F S1x2048 .f32) (X11 : Vec F S128x2048 .f32)
    (K : (Σ' (v260 : IVec S128x256 1), FVec F S256x128 .f32) → sProp 𝕄) :
    iprop(owns (c : Thread nD τ) arg5 q5 X5 ∗ owns (c : Thread nD τ) arg6 q6 X6 ∗ owns (c : Thread nD τ) arg7 q7 X7 ∗ owns (c : Thread nD τ) arg9 q9 X9 ∗ owns (c : Thread nD τ) arg10 fullShare X10 ∗ owns (c : Thread nD τ) arg11 fullShare X11
      ∗ (owns (c : Thread nD τ) arg5 q5 X5 -∗ owns (c : Thread nD τ) arg6 q6 X6 -∗ owns (c : Thread nD τ) arg7 q7 X7 -∗ owns (c : Thread nD τ) arg9 q9 X9
        -∗ owns (c : Thread nD τ) arg10 fullShare (loopF i X5 X6 X9 v62 ((i 2).val - 1) 0 rfl (flagP v149 v201) (runPrev X10 v149 v201) (accPrev i X6 X11 v206 v233)).1
        -∗ owns (c : Thread nD τ) arg11 fullShare (loopF i X5 X6 X9 v62 ((i 2).val - 1) 0 rfl (flagP v149 v201) (runPrev X10 v149 v201) (accPrev i X6 X11 v206 v233)).2
        -∗ K ⟨k0_pay55, outZero X7 (loopF i X5 X6 X9 v62 ((i 2).val - 1) 0 rfl (flagP v149 v201) (runPrev X10 v149 v201) (accPrev i X6 X11 v206 v233)).2⟩))
    ⊢ wp frame (wpE (defs₀ (F := F)) 𝒱₀ (c : Thread nD τ) none) E (k0_part8 i arg3 harg3 arg4 harg4 arg5 harg5 arg6 harg6 arg7 harg7 arg8 harg8 arg9 harg9 arg10 harg10 arg11 harg11 v62 v68 v149 v201 v206 v233) K := by
  unfold outZero
  rw [k0_part8_eq_skeleton]; unfold k0_part8_skel
  simp only [Prog.lift, Prog.bind_op, Prog.bind_ret, Prog.pure_eq_ret]
  iintro ⟨H5, H6, H7, H9, H10, H11, Hk⟩
  iapply (wp_load_owns 𝒱₀ (c : Thread nD τ) none E) $$ H11; iintro H11
  iapply (wp_store_owns 𝒱₀ (c : Thread nD τ) none E) $$ H11; iintro H11
  iapply (wp_load_owns 𝒱₀ (c : Thread nD τ) none E) $$ H11; iintro H11
  iapply (wp_load_owns 𝒱₀ (c : Thread nD τ) none E) $$ H6; iintro H6
  iapply (wp_load_owns 𝒱₀ (c : Thread nD τ) none E) $$ H11; iintro H11
  iapply (wp_store_owns 𝒱₀ (c : Thread nD τ) none E) $$ H11; iintro H11
  iapply (wp_load_owns 𝒱₀ (c : Thread nD τ) none E) $$ H10; iintro H10
  iapply (wp_store_owns 𝒱₀ (c : Thread nD τ) none E) $$ H10; iintro H10
  iapply (wp_call_spec 𝒱₀ (c : Thread nD τ) none E
    (spec c i arg5 arg6 arg9 arg10 arg11 q5 q6 q9 X5 X6 X9 v62 ((i 2).val - 1) 0 rfl (flagP v149 v201) (runPrev X10 v149 v201) (accPrev i X6 X11 v206 v233)) ((i 2).val - 1)
    (fun u hu => nomatch hu) (spec_le c i arg5 harg5 arg6 harg6 arg9 harg9 arg10 harg10 arg11 harg11 q5 q6 q9 X5 X6 X9 v62 E _ 0 rfl _ _ _))
  rw [spec_apply]; unfold held
  isplitl [H5 H6 H9 H10 H11]
  · isplitl [H5]; · iexact H5
    isplitl [H6]; · iexact H6
    isplitl [H9]; · iexact H9
    isplitl [H10]; · iexact H10
    iexact H11
  iintro %r ⟨H5, H6, H9, H10, H11⟩
  rcases r with ⟨r1, r2⟩
  dsimp only
  iapply (wp_load_owns 𝒱₀ (c : Thread nD τ) none E) $$ H11; iintro H11
  iapply (wp_load_owns 𝒱₀ (c : Thread nD τ) none E) $$ H11; iintro H11
  iapply (wp_load_owns 𝒱₀ (c : Thread nD τ) none E) $$ H7; iintro H7
  rw [wp_ret]; imodintro
  iapply Hk $$ H5 H6 H7 H9 H10 H11

/-- The body at one point. -/
theorem body_wp (c : Dev nD) (E : Set ℕ) (i : grid0.Coords) (arg3 : Memref sig .tc .vmem S256x256 .bf16) (harg3 : arg3.IsWhole) (arg4 : Memref sig .tc .vmem S1x256x512 .bf16) (harg4 : arg4.IsWhole) (arg5 : Memref sig .tc .vmem S1x8192x512 .bf16) (harg5 : arg5.IsWhole) (arg6 : Memref sig .tc .vmem S1x4x32x128x256 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S2048x128 .bf16) (harg9 : arg9.IsWhole) (arg10 : Memref sig .tc .vmem S1x2048 .f32) (harg10 : arg10.IsWhole) (arg11 : Memref sig .tc .vmem S128x2048 .f32) (harg11 : arg11.IsWhole)
    {q3 q4 q5 q6 q7 : PosShare TreeShare} (X3 : Vec F S256x256 .bf16) (X4 : Vec F S1x256x512 .bf16) (X5 : Vec F S1x8192x512 .bf16) (X6 : Vec F S1x4x32x128x256 .bf16) (X7 : Vec F S1x256x512 .bf16) (X8 : Vec F S1x256x512 .bf16) (X9 : Vec F S2048x128 .bf16) (X10 : Vec F S1x2048 .f32) (X11 : Vec F S128x2048 .f32)
    (K : PUnit → sProp 𝕄) :
    iprop(owns (c : Thread nD τ) arg3 q3 X3 ∗ owns (c : Thread nD τ) arg4 q4 X4 ∗ owns (c : Thread nD τ) arg5 q5 X5 ∗ owns (c : Thread nD τ) arg6 q6 X6 ∗ owns (c : Thread nD τ) arg7 q7 X7 ∗ owns (c : Thread nD τ) arg8 fullShare X8 ∗ owns (c : Thread nD τ) arg9 fullShare X9 ∗ owns (c : Thread nD τ) arg10 fullShare X10 ∗ owns (c : Thread nD τ) arg11 fullShare X11
      ∗ (owns (c : Thread nD τ) arg3 q3 X3 -∗ owns (c : Thread nD τ) arg4 q4 X4 -∗ owns (c : Thread nD τ) arg5 q5 X5 -∗ owns (c : Thread nD τ) arg6 q6 X6 -∗ owns (c : Thread nD τ) arg7 q7 X7
        -∗ owns (c : Thread nD τ) arg8 fullShare (pointOut i X3 X4 X5 X6 X7 X8 X9 X10 X11)
        -∗ owns (c : Thread nD τ) arg9 fullShare (qsAll X4 X9)
        -∗ owns (c : Thread nD τ) arg10 fullShare (allF i X5 X6 X10 X11 (qsAll X4 X9) (triT X3)).1
        -∗ owns (c : Thread nD τ) arg11 fullShare (allF i X5 X6 X10 X11 (qsAll X4 X9) (triT X3)).2
        -∗ K ⟨⟩))
    ⊢ wp frame (wpE (defs₀ (F := F)) 𝒱₀ (c : Thread nD τ) none) E (cc0_stick_attention i arg3 harg3 arg4 harg4 arg5 harg5 arg6 harg6 arg7 harg7 arg8 harg8 arg9 harg9 arg10 harg10 arg11 harg11) K := by
  unfold pointOut allF qsAll zM csD zP csP accD runD accP outF outAll
  rw [cc0_stick_attention_eq_skeleton]; unfold cc0_stick_attention_skel
  iintro ⟨H3, H4, H5, H6, H7, H8, H9, H10, H11, Hk⟩
  rw [wp_bind]
  iapply (part1_wp c none E i arg3 harg3 arg4 harg4 arg5 harg5 arg6 harg6 arg7 harg7 arg8 harg8 arg9 harg9 arg10 harg10 arg11 harg11)
  isplitl [H4]; · iexact H4
  isplitl [H9]; · iexact H9
  iintro H4 H9
  dsimp only
  rw [wp_bind]
  iapply (part2_wp c none E i arg3 harg3 arg4 harg4 arg5 harg5 arg6 harg6 arg7 harg7 arg8 harg8 arg9 harg9 arg10 harg10 arg11 harg11)
  isplitl [H3]; · iexact H3
  isplitl [H4]; · iexact H4
  isplitl [H9]; · iexact H9
  iintro H3 H4 H9
  dsimp only
  rw [wp_bind]
  iapply (part3_wp c none E i arg3 harg3 arg4 harg4 arg5 harg5 arg6 harg6 arg7 harg7 arg8 harg8 arg9 harg9 arg10 harg10 arg11 harg11)
  isplitl [H5]; · iexact H5
  isplitl [H9]; · iexact H9
  isplitl [H11]; · iexact H11
  iintro H5 H9 H11
  dsimp only
  rw [wp_bind]
  iapply (part4_wp c none E i arg3 harg3 arg4 harg4 arg5 harg5 arg6 harg6 arg7 harg7 arg8 harg8 arg9 harg9 arg10 harg10 arg11 harg11)
  isplitl [H5]; · iexact H5
  isplitl [H9]; · iexact H9
  iintro H5 H9
  dsimp only
  rw [wp_bind]
  iapply (part5_wp c none E i arg3 harg3 arg4 harg4 arg5 harg5 arg6 harg6 arg7 harg7 arg8 harg8 arg9 harg9 arg10 harg10 arg11 harg11)
  isplitl [H6]; · iexact H6
  isplitl [H9]; · iexact H9
  isplitl [H11]; · iexact H11
  iintro H6 H9 H11
  dsimp only
  rw [wp_bind]
  iapply (part6_wp c none E i arg3 harg3 arg4 harg4 arg5 harg5 arg6 harg6 arg7 harg7 arg8 harg8 arg9 harg9 arg10 harg10 arg11 harg11)
  isplitl [H6]; · iexact H6
  isplitl [H11]; · iexact H11
  iintro H6 H11
  dsimp only
  rw [wp_bind]
  iapply (part7_wp c none E i arg3 harg3 arg4 harg4 arg5 harg5 arg6 harg6 arg7 harg7 arg8 harg8 arg9 harg9 arg10 harg10 arg11 harg11)
  isplitl [H6]; · iexact H6
  isplitl [H11]; · iexact H11
  iintro H6 H11
  dsimp only
  rw [wp_bind]
  iapply (part8_wp c E i arg3 harg3 arg4 harg4 arg5 harg5 arg6 harg6 arg7 harg7 arg8 harg8 arg9 harg9 arg10 harg10 arg11 harg11)
  isplitl [H5]; · iexact H5
  isplitl [H6]; · iexact H6
  isplitl [H7]; · iexact H7
  isplitl [H9]; · iexact H9
  isplitl [H10]; · iexact H10
  isplitl [H11]; · iexact H11
  iintro H5 H6 H7 H9 H10 H11
  dsimp only
  rw [wp_bind]
  iapply (part9_wp c none E i arg3 harg3 arg4 harg4 arg5 harg5 arg6 harg6 arg7 harg7 arg8 harg8 arg9 harg9 arg10 harg10 arg11 harg11)
  isplitl [H7]; · iexact H7
  isplitl [H8]; · iexact H8
  isplitl [H11]; · iexact H11
  iintro H7 H8 H11
  dsimp only
  simp only [Prog.lift, Prog.bind_op, Prog.bind_ret, Prog.pure_eq_ret]
  iapply (wp_load_owns 𝒱₀ (c : Thread nD τ) none E) $$ H7; iintro H7
  iapply (wp_load_owns 𝒱₀ (c : Thread nD τ) none E) $$ H8; iintro H8
  iapply (wp_store_owns 𝒱₀ (c : Thread nD τ) none E) $$ H8; iintro H8
  rw [wp_ret]; imodintro
  iapply Hk $$ H3 H4 H5 H6 H7 H8 H9 H10 H11

end Cert.KernelIdeal.Stick

end
-- ==== Proof.RunI.lean ====
/-
  The run of the whole program: the host's operations, then the call at every grid point; the result of a point is a
  function of the input blocks there alone. The arguments are unchanged at the end and every counter is zero.
-/
module

public import proofs.«01_k».proof.Proof.PointI
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame

@[expose] public section

noncomputable section

namespace Cert.KernelIdeal.Stick

open Cert.KernelIdeal Cert.KernelIdeal.Gen Cert.Stick

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Nothing found in the scratch or the result's buffer is kept -/

/-- The eight stores of the masked query rows cover them. -/
theorem qsAll_indep (X4 : Vec F S1x256x512 .bf16) (X9 X9' : Vec F S2048x128 .bf16) : qsAll X4 X9 = qsAll X4 X9' := by
  funext y
  have h0 : (y 0).val < 2048 := (y 0).isLt
  have h1 : (y 1).val < 128 := (y 1).isLt
  unfold qsAll qsHigh qsLow
  refine upU_congr fun e1 => upU_congr fun e2 => upU_congr fun e3 => upU_congr fun e4 => upU_congr fun e5 => upU_congr fun e6 => upU_congr fun e7 => upU_congr fun e8 => ?_
  exfalso
  simp only [Fin.forall_fin_two] at e1 e2 e3 e4 e5 e6 e7 e8
  dsimp at e1 e2 e3 e4 e5 e6 e7 e8
  omega

/-- The clearing store covers the accumulator. -/
theorem accClear_indep (X11 X11' : Vec F S128x2048 .f32) (v : FVec F S128x2048 .f32) : accClear X11 v = accClear X11' v := by
  funext y
  have h0 : (y 0).val < 128 := (y 0).isLt
  have h1 : (y 1).val < 2048 := (y 1).isLt
  unfold accClear
  refine upU_congr fun e1 => ?_
  exfalso
  simp only [Fin.forall_fin_two] at e1
  dsimp at e1
  omega

/-- The store of the running total covers it. -/
theorem runPrev_indep (X10 X10' : Vec F S1x2048 .f32) (s : FVec F S256x2048 .f32) (r : FVec F S1x2048 .f32) : runPrev X10 s r = runPrev X10' s r := by
  funext y
  have h0 : (y 0).val < 1 := (y 0).isLt
  have h1 : (y 1).val < 2048 := (y 1).isLt
  unfold runPrev
  refine upU_congr fun e1 => ?_
  exfalso
  simp only [Fin.forall_fin_two] at e1
  dsimp at e1
  omega

/-- The four stores of the result block cover it. -/
theorem outF_indep (X7 X8 X8' : Vec F S1x256x512 .bf16) (A : Vec F S128x2048 .f32) : outF X7 X8 A = outF X7 X8' A := by
  funext y
  have h0 : (y 0).val < 1 := (y 0).isLt
  have h1 : (y 1).val < 256 := (y 1).isLt
  have h2 : (y 2).val < 512 := (y 2).isLt
  unfold outF outAll outLow
  refine upU_congr fun e1 => upU_congr fun e2 => upU_congr fun e3 => upU_congr fun e4 => ?_
  exfalso
  simp only [Fin.forall_fin_succ] at e1 e2 e3 e4
  dsimp at e1 e2 e3 e4
  simp at e1 e2 e3 e4
  omega

/-- Contents nothing depends on. -/
def anyV {e : EltTy} (s : Shape) : Vec F s e := fun _ => Classical.arbitrary _

/-- The result block of a point, from the input blocks alone. -/
def result (i : grid0.Coords) (X3 : Vec F S256x256 .bf16) (X4 : Vec F S1x256x512 .bf16) (X5 : Vec F S1x8192x512 .bf16) (X6 : Vec F S1x4x32x128x256 .bf16)
    (X7 : Vec F S1x256x512 .bf16) : Vec F S1x256x512 .bf16 :=
  pointOut i X3 X4 X5 X6 X7 (anyV _) (anyV _) (anyV _) (anyV _)

theorem pointOut_eq (i : grid0.Coords) (X3 : Vec F S256x256 .bf16) (X4 : Vec F S1x256x512 .bf16) (X5 : Vec F S1x8192x512 .bf16) (X6 : Vec F S1x4x32x128x256 .bf16)
    (X7 X8 : Vec F S1x256x512 .bf16) (X9 : Vec F S2048x128 .bf16) (X10 : Vec F S1x2048 .f32) (X11 : Vec F S128x2048 .f32) :
    pointOut i X3 X4 X5 X6 X7 X8 X9 X10 X11 = result i X3 X4 X5 X6 X7 := by
  unfold result pointOut allF accD
  rw [qsAll_indep X4 X9 (anyV _), outF_indep X7 X8 (anyV _), accClear_indep X11 (anyV _), runPrev_indep X10 (anyV _)]

/-! ## The pipeline's proof data -/

variable (m : (ℓ : Loc nD τ sig) → Buf (Elt F) ℓ) (ρ : Dev nD → PrngReg)

/-- What the call finds in a buffer: what the host's operations leave there. -/
abbrev V (c : Dev nD) (b : Ref sig .tc) : Buf (Elt F) ((c : Thread nD τ).loc b) := StableHlo.after hostOps0 (fun b => m (c, b)) b

/-- The block of a window at a point. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The result block of a point, from the arrays as the call finds them. -/
def outAt (c : Dev nD) (t : Fin (cfg0 (F := F)).N) : Vec F S1x256x512 .bf16 :=
  result (grid0.coords t) (iblk m c 0 t) (iblk m c 1 t) (iblk m c 2 t) (iblk m c 3 t) (iblk m c 4 t)

/-- After the body each input's buffer holds its block and the result's holds `outAt`; nothing is owed. -/
def dats (_ : Fin 1) (c : Dev nD) : Pipeline.Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = outAt m c t := rfl

/-! Each input's buffer holds its block when the body runs. -/

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Pipeline.Dat.blockOf iblk; rfl) t d).trans
    (by unfold Pipeline.Dat.fetched Pipeline.Dat.blockOf iblk; rfl)

theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Pipeline.Dat.blockOf iblk; rfl) t d).trans
    (by unfold Pipeline.Dat.fetched Pipeline.Dat.blockOf iblk; rfl)

theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Pipeline.Dat.blockOf iblk; rfl) t d).trans
    (by unfold Pipeline.Dat.fetched Pipeline.Dat.blockOf iblk; rfl)

theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Pipeline.Dat.blockOf iblk; rfl) t d).trans
    (by unfold Pipeline.Dat.fetched Pipeline.Dat.blockOf iblk; rfl)

theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4]; unfold Pipeline.Dat.blockOf iblk; rfl) t d).trans
    (by unfold Pipeline.Dat.fetched Pipeline.Dat.blockOf iblk; rfl)

/-! ## The body at a point -/

/-- A whole buffer held at what it reads is held at some contents. -/
theorem scratch_back (c : Dev nD) (b : Ref sig .tc) (X : b.ty.Contents (Elt F)) :
    (owns (c : Thread nD τ) (Memref.whole b) fullShare X : sProp 𝕄) ⊢ iprop(∃ f : Buf (Elt F) ((c : Thread nD τ).loc b), ((c : Thread nD τ).loc b) ↦{fullShare} f) := by
  rw [owns_whole]
  iintro H
  iexists _
  iexact H

/-- A whole buffer held at some contents reads them. -/
theorem scratch_fwd (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  rw [owns_whole]

theorem find0_0 (c : Dev nD) (t : Fin (cfg0 (F := F)).N) (d) (M : Memref sig .tc .vmem ((cfg0 (F := F)).win 0).block ((cfg0 (F := F)).win 0).elt) :
    (owns (c : Thread nD τ) M fullShare ((dats m 0 c).before 0 t d) : sProp 𝕄) ⊢ owns (c : Thread nD τ) M fullShare (iblk m c 0 t) := by
  rw [before0_0]
theorem find0_1 (c : Dev nD) (t : Fin (cfg0 (F := F)).N) (d) (M : Memref sig .tc .vmem ((cfg0 (F := F)).win 1).block ((cfg0 (F := F)).win 1).elt) :
    (owns (c : Thread nD τ) M fullShare ((dats m 0 c).before 1 t d) : sProp 𝕄) ⊢ owns (c : Thread nD τ) M fullShare (iblk m c 1 t) := by
  rw [before0_1]
theorem find0_2 (c : Dev nD) (t : Fin (cfg0 (F := F)).N) (d) (M : Memref sig .tc .vmem ((cfg0 (F := F)).win 2).block ((cfg0 (F := F)).win 2).elt) :
    (owns (c : Thread nD τ) M fullShare ((dats m 0 c).before 2 t d) : sProp 𝕄) ⊢ owns (c : Thread nD τ) M fullShare (iblk m c 2 t) := by
  rw [before0_2]
theorem find0_3 (c : Dev nD) (t : Fin (cfg0 (F := F)).N) (d) (M : Memref sig .tc .vmem ((cfg0 (F := F)).win 3).block ((cfg0 (F := F)).win 3).elt) :
    (owns (c : Thread nD τ) M fullShare ((dats m 0 c).before 3 t d) : sProp 𝕄) ⊢ owns (c : Thread nD τ) M fullShare (iblk m c 3 t) := by
  rw [before0_3]
theorem find0_4 (c : Dev nD) (t : Fin (cfg0 (F := F)).N) (d) (M : Memref sig .tc .vmem ((cfg0 (F := F)).win 4).block ((cfg0 (F := F)).win 4).elt) :
    (owns (c : Thread nD τ) M fullShare ((dats m 0 c).before 4 t d) : sProp 𝕄) ⊢ owns (c : Thread nD τ) M fullShare (iblk m c 4 t) := by
  rw [before0_4]

/-- What the body leaves in the result's buffer is `outAt`. -/
theorem out_back (c : Dev nD) (t : Fin (cfg0 (F := F)).N) (M : Memref sig .tc .vmem S1x256x512 .bf16)
    (X8 : Vec F S1x256x512 .bf16) (X9 : Vec F S2048x128 .bf16) (X10 : Vec F S1x2048 .f32) (X11 : Vec F S128x2048 .f32) :
    (owns (c : Thread nD τ) M fullShare (pointOut (grid0.coords t) (iblk m c 0 t) (iblk m c 1 t) (iblk m c 2 t) (iblk m c 3 t) (iblk m c 4 t) X8 X9 X10 X11) : sProp 𝕄)
      ⊢ owns (c : Thread nD τ) M fullShare (outAt m c t) :=
  Entails.of_eq (congrArg (owns (c : Thread nD τ) M fullShare) (pointOut_eq _ _ _ _ _ _ X8 X9 X10 X11))

/-- The library's body obligation: the body's run on the staging buffers, the scratch at any contents. -/
theorem body_obligation (c : Dev nD) : Pipeline.BodyObligation (dats (F := F) m 0 c) (defs₀ (F := F)) 𝒱₀ () Set.univ := fun t => by
  rw [bigSep_W0, bigSep_W0]
  sl_whnfR [defs₀, Defs.onTc]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5]
  unfold Pipeline.ΦA
  rw [scopedRest0_eq]
  iintro ⟨⟨⟨⟨%f0, HA⟩, ⟨%f1, HB⟩, ⟨%f2, HC⟩⟩, Hr⟩, Ho, ⟨%d0, H0⟩, ⟨%d1, H1⟩, ⟨%d2, H2⟩, ⟨%d3, H3⟩, ⟨%d4, H4⟩, ⟨%d5, H5⟩⟩
  iapply (body_wp c Set.univ (grid0.coords t) _ _ _ _ _ _ _ _ _ _ _ _ _ _ _ _ _ _ (iblk m c 0 t) (iblk m c 1 t) (iblk m c 2 t) (iblk m c 3 t) (iblk m c 4 t) _ f0 f1 f2 _)
  isplitl [H0]; · iapply (find0_0 m c t); iexact H0
  isplitl [H1]; · iapply (find0_1 m c t); iexact H1
  isplitl [H2]; · iapply (find0_2 m c t); iexact H2
  isplitl [H3]; · iapply (find0_3 m c t); iexact H3
  isplitl [H4]; · iapply (find0_4 m c t); iexact H4
  isplitl [H5]; · iexact H5
  isplitl [HA]; · iapply (scratch_fwd c cc0_scratch0); iexact HA
  isplitl [HB]; · iapply (scratch_fwd c cc0_scratch1); iexact HB
  isplitl [HC]; · iapply (scratch_fwd c cc0_scratch2); iexact HC
  iintro H0 H1 H2 H3 H4 H5 HA HB HC
  isplitl [HA HB HC Hr]
  · isplitl [HA HB HC]
    · isplitl [HA]; · iapply (scratch_back c); iexact HA
      isplitl [HB]; · iapply (scratch_back c); iexact HB
      iapply (scratch_back c); iexact HC
    iexact Hr
  isplitl [Ho]; · iexact Ho
  isplitl [H0]; · iexact H0
  isplitl [H1]; · iexact H1
  isplitl [H2]; · iexact H2
  isplitl [H3]; · iexact H3
  isplitl [H4]; · iexact H4
  iapply (out_back m c t); iexact H5

/-! ## The run -/

theorem hostOps0_fresh : (hostOps0 : List (HloOp τ sig (Elt F))).Forall fun op => op.fresh = ∅ := by
  simp only [List.Forall]; repeat' constructor

/-- No host operation writes an argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [List.Forall]
    repeat' apply And.intro
    all_goals exact fun hm => StableHlo.devRef_ne_of_ne (fun h => by cases h) (Finset.mem_singleton.mp hm)))
theorem V_arg1 (c : Dev nD) : V m c main_arg1 = m ((c : Thread nD τ).loc main_arg1) :=
  StableHlo.after_of_forall_not_mem (b := Proc.devRef .tc main_arg1) _ _ (List.forall_iff_forall_mem.mp (by
    simp only [List.Forall]
    repeat' apply And.intro
    all_goals exact fun hm => StableHlo.devRef_ne_of_ne (fun h => by cases h) (Finset.mem_singleton.mp hm)))
theorem V_arg2 (c : Dev nD) : V m c main_arg2 = m ((c : Thread nD τ).loc main_arg2) :=
  StableHlo.after_of_forall_not_mem (b := Proc.devRef .tc main_arg2) _ _ (List.forall_iff_forall_mem.mp (by
    simp only [List.Forall]
    repeat' apply And.intro
    all_goals exact fun hm => StableHlo.devRef_ne_of_ne (fun h => by cases h) (Finset.mem_singleton.mp hm)))
theorem V_arg3 (c : Dev nD) : V m c main_arg3 = m ((c : Thread nD τ).loc main_arg3) :=
  StableHlo.after_of_forall_not_mem (b := Proc.devRef .tc main_arg3) _ _ (List.forall_iff_forall_mem.mp (by
    simp only [List.Forall]
    repeat' apply And.intro
    all_goals exact fun hm => StableHlo.devRef_ne_of_ne (fun h => by cases h) (Finset.mem_singleton.mp hm)))

set_option backward.isDefEq.respectTransparency.types false in
/-- From any memory every fair execution ends with every array at what the points wrote and every counter at zero. -/
theorem run_main : θ_run defs (onTc (τ := τ) (main (F := F))) ⟨m, fun _ => 0, ρ⟩
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m)
    (hmain := Pipeline.hmain_prefix cfgs 0 defs₀ 𝒱₀ m main hostOps0 hostOps0_sub hostOps0_fresh main_chain)
    (hA := fun _ _ => rfl) (hΦ := fun _ _ => rfl)

/-- The result and the arguments at the end of a run. -/
theorem run_out : θ_run defs (onTc (τ := τ) (main (F := F))) ⟨m, fun _ => 0, ρ⟩ (fun r => (∀ c : Dev nD,
      r.2.mem ((c.tc : Thread nD τ).loc main_v23) = (dats m 0 c).arrAt 5 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hz⟩ => ⟨fun c => ⟨(h c).1 5,
      ((h c).2 main_arg0 (Pipeline.mem_restRefs_of main_arg0 rfl (fun w => by fin_cases w <;> exact fun h => by cases h))).trans (V_arg0 m c),
      ((h c).2 main_arg1 (Pipeline.mem_restRefs_of main_arg1 rfl (fun w => by fin_cases w <;> exact fun h => by cases h))).trans (V_arg1 m c),
      ((h c).2 main_arg2 (Pipeline.mem_restRefs_of main_arg2 rfl (fun w => by fin_cases w <;> exact fun h => by cases h))).trans (V_arg2 m c),
      ((h c).2 main_arg3 (Pipeline.mem_restRefs_of main_arg3 rfl (fun w => by fin_cases w <;> exact fun h => by cases h))).trans (V_arg3 m c)⟩, hz⟩) (run_main m ρ)

/-- The arguments at the end of a run. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hz⟩ => ⟨fun c => (h c).2, hz⟩) (run_out m ρ)

end Cert.KernelIdeal.Stick

end
-- ==== Proof.Frames.lean ====
/-
  The frames of the three programs and the named constants.
-/
module

public import proofs.«01_k».proof.Defs
public import proofs.«01_k».proof.Proof.RunI
public import proofs.«01_k».proof.Proof.RunP
public import proofs.«01_k».proof.Proof.Gen.ReferenceIdeal.Run

@[expose] public section

noncomputable section

namespace Cert.Proof

open Idealize.ShloMosaic Idealize.ShloMosaic.TcCoe Idealize.SL.Sem

theorem frame_kernel : Cert.quiescent_Kernel := fun m g _ => Cert.Kernel.Stick.frame_run (F := Bits) m g

theorem frame_kernelIdeal : Cert.quiescent_KernelIdeal := fun m g _ => Cert.KernelIdeal.Stick.frame_run (F := Ideal) m g

/-- The reference declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem named : Cert.preserves_Kernel_KernelIdeal :=
  ⟨IdealRules.named_const.statement Cert.KernelIdeal.κ "mask" .f32 0xF149F2CA#32 ⊥ rfl,
   IdealRules.named_const.statement Cert.KernelIdeal.κ "log2e" .f32 0x3FB8AA3B#32 (((Real.log 2)⁻¹ : ℝ) : EReal) rfl,
   IdealRules.named_const.statement Cert.KernelIdeal.κ "past" .f32 0x7149F2CA#32 ⊤ rfl,
   IdealRules.named_const.statement Cert.KernelIdeal.κ "underflow" .f32 0x43170000#32 ⊤ rfl⟩

end Cert.Proof

end
-- ==== Proof.OutValue.lean ====
/-
  The output projection: what the call leaves is the residual plus the gated product.
-/
module

public import proofs.«01_k».proof.Defs
public import proofs.«01_k».proof.Proof.Gen.OutKernel.Frame
public import proofs.«01_k».proof.Proof.Gen.OutKernelIdeal.Frame
public import proofs.«01_k».proof.Proof.Gen.OutReferenceIdeal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.OutKernelIdeal.Proj

open Cert.OutKernelIdeal Cert.OutKernelIdeal.Gen

variable (m : (ℓ : Loc nD τ sig) → Buf (Elt Ideal) ℓ)

/-- The reference's result over its four arguments. -/
abbrev result (y : FVec Ideal Cert.OutReferenceIdeal.S4x8192x1024 .f32) (w : FVec Ideal Cert.OutReferenceIdeal.S1024x1024 .f32)
    (x : FVec Ideal Cert.OutReferenceIdeal.S4x8192x1024 .f32) (mod : FVec Ideal Cert.OutReferenceIdeal.S3x4x1x1024 .f32) :
    FVec Ideal Cert.OutReferenceIdeal.S4x8192x1024 .f32 :=
  addf x (mulf
    (broadcastInDim Cert.OutReferenceIdeal.S4x8192x1024 ![0, 1, 2] Cert.OutReferenceIdeal.Gen.bcast_S4x1x1024_S4x8192x1024_0_1_2
      (shapeCast _ (extractStridedSlice Cert.OutReferenceIdeal.S1x4x1x1024 ![2, 0, 0, 0] mod
        Cert.OutReferenceIdeal.Gen.slices_S3x4x1x1024_S1x4x1x1024_2_0_0_0) Cert.OutReferenceIdeal.Gen.shapeCasts_S1x4x1x1024_S4x1x1024))
    (Host.dotGeneral Cert.OutReferenceIdeal.dot_S4x8192x1024_S1024x1024_S4x8192x1024_2_0_01_1_n_n none y w))

/-- The block every window shows at a point. -/
theorem idx : ∀ t : Fin cfg0.N, win0_0.index t = ![t.val / 8, t.val % 8, 0]
    ∧ win0_1.index t = ![0, 0]
    ∧ win0_2.index t = ![t.val / 8, t.val % 8, 0]
    ∧ win0_3.index t = ![0, t.val / 8, 0, 0]
    ∧ win0_4.index t = ![t.val / 8, t.val % 8, 0] :=
  (by decide +kernel : ∀ t : Fin grid0.N, _)

/-- What a point stores is the reference's result where the block sits. -/
theorem point (c : Dev nD) (t : Fin cfg0.N) (y) :
    k0_pay1 (iblk m c 2 t) (View.ld (iblk m c 3 t) r0_1) (iblk m c 0 t) (iblk m c 1 t) y
      = result (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, result]
  blk_point [iblk, V, idx t]

theorem final (c : Dev nD) : (dats m 0 c).arrAt 4 (cfgs 0).N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp; rw [after0_4]; frame_out
  exact point m c t y

end Cert.OutKernelIdeal.Proj

namespace Cert.Proof

theorem frame_outKernel : Cert.quiescent_OutKernel := fun m g _ => Cert.OutKernel.Gen.frame (F := Bits) m g

theorem frame_outKernelIdeal : Cert.quiescent_OutKernelIdeal := fun m g _ => Cert.OutKernelIdeal.Gen.frame (F := Ideal) m g

/-- The reference declares no semaphore. -/
theorem frame_outReference : Cert.quiescent_OutReferenceIdeal := fun m g _ =>
  (θ_run Cert.OutReferenceIdeal.defs _ _).mono (fun r h => ⟨fun c => (h c).2, sem_eq_zero_of_no_sems (by decide) r.2⟩)
    (Cert.OutReferenceIdeal.Value.run (F := Ideal) m g)

theorem value_out : Cert.algebraic_OutKernelIdeal_OutReferenceIdeal := by
  pair_intro
  · run_from Cert.OutKernelIdeal.Gen.run_main m g
  · refine (θ_run Cert.OutReferenceIdeal.defs _ _).mono (fun _ h c => ?_) (Cert.OutReferenceIdeal.Value.run (F := Ideal) m' g')
    obtain ⟨h0, h1, h2, h3⟩ := hagree c
    refine ⟨((h c).1.trans ?_).trans (Cert.OutKernelIdeal.Proj.final m c).symm, (h c).2⟩
    have e := congr (congr (congr (congrArg Cert.OutKernelIdeal.Proj.result h0) h1) h2) h3
    exact e

end Cert.Proof

end
-- ==== Proof.InStages.lean ====
/-
  The input projection's reference, stage by stage.
-/
module

public import proofs.«01_k».proof.Proof.Gen.InReferenceIdeal.Run
public import Idealize.ShloMosaic.Lib.Pointwise

@[expose] public section

set_option maxRecDepth 16384

noncomputable section

namespace Cert.InReferenceIdeal.Proj

open Cert.InReferenceIdeal Cert.InReferenceIdeal.Gen
open Idealize.ShloMosaic Idealize.ShloMosaic.TcCoe Idealize.SL.Sem

/-- One of the modulation's three parts, over the rows. -/
def gate (mod : FVec Ideal S3x4x1x1024 .f32) : FVec Ideal S4x8192x1024 .f32 :=
  broadcastInDim S4x8192x1024 ![0, 1, 2] bcast_S4x1x1024_S4x8192x1024_0_1_2
    (shapeCast _ (extractStridedSlice S1x4x1x1024 ![2, 0, 0, 0] mod slices_S3x4x1x1024_S1x4x1x1024_2_0_0_0) shapeCasts_S1x4x1x1024_S4x1x1024)

/-- The residual stream after the even layer. -/
def stream (ya yb : FVec Ideal S4x8192x512 .f32) (w : FVec Ideal S1024x1024 .f32) (modp : FVec Ideal S3x4x1x1024 .f32)
    (x : FVec Ideal S4x8192x1024 .f32) : FVec Ideal S4x8192x1024 .f32 :=
  addf x (mulf (gate modp) (Host.dotGeneral (F := Ideal) (φ₁ := .f32) (φ₂ := .f32) dot_S4x8192x1024_S1024x1024_S4x8192x1024_2_0_01_1_n_n none
    (concatenate S4x8192x1024 2 [⟨S4x8192x512, ya⟩, ⟨S4x8192x512, yb⟩] concatenates_S4x8192x512_S4x8192x512_S4x8192x1024_d2) w))

/-- The rows normed and modulated. -/
def normed (x1 : FVec Ideal S4x8192x1024 .f32) (mod : FVec Ideal S3x4x1x1024 .f32) (ng : FVec Ideal S1024 .f32) : FVec Ideal S4x8192x1024 .f32 :=
  addf (mulf (mulf (mulf x1 (broadcastInDim S4x8192x1024 ![0, 1, 2] bcast_S4x8192x1_S4x8192x1024_0_1_2
      (Host.rsqrt (addf (Host.divf (broadcastInDim S4x8192x1 ![0, 1] bcast_S4x8192_S4x8192x1_0_1
        (Host.reduceAdd (mulf x1 x1) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
      (broadcastInDim S4x8192x1024 ![0, 1, 2] bcast_S1x1x1024_S4x8192x1024_0_1_2 (broadcastInDim S1x1x1024 ![2] bcast_S1024_S1x1x1024_2 ng)))
      (broadcastInDim S4x8192x1024 ![0, 1, 2] bcast_S4x1x1024_S4x8192x1024_0_1_2
        (addf (broadcastInDim S4x1x1024 ![] bcast_S_S4x1x1024 (constant S_ .f32 0x3F800000#32))
          (shapeCast _ (extractStridedSlice S1x4x1x1024 ![1, 0, 0, 0] mod slices_S3x4x1x1024_S1x4x1x1024_1_0_0_0) shapeCasts_S1x4x1x1024_S4x1x1024))))
    (broadcastInDim S4x8192x1024 ![0, 1, 2] bcast_S4x1x1024_S4x8192x1024_0_1_2
      (shapeCast _ (extractStridedSlice S1x4x1x1024 ![0, 0, 0, 0] mod slices_S3x4x1x1024_S1x4x1x1024_0_0_0_0) shapeCasts_S1x4x1x1024_S4x1x1024))

/-- The rows times the input weights. -/
def product (h : FVec Ideal S4x8192x1024 .f32) (w : FVec Ideal S1024x4096 .f32) : FVec Ideal S4x8192x4096 .f32 :=
  Host.dotGeneral (F := Ideal) (φ₁ := .f32) (φ₂ := .f32) dot_S4x8192x1024_S1024x4096_S4x8192x4096_2_0_01_1_n_n none h w

/-- The scaled queries. -/
def queries (p : FVec Ideal S4x8192x4096 .f32) : FVec Ideal S4x8192x1024 .f32 :=
  mulf (extractStridedSlice S4x8192x1024 ![0, 0, 0] p slices_S4x8192x4096_S4x8192x1024_0_0_0)
    (broadcastInDim S4x8192x1024 ![] bcast_S_S4x8192x1024 (Host.divf (constant S_ .f32 0x3E000000#32) (Host.log (constant S_ .f32 0x40000000#32))))

/-- The gate's sigmoid-weighted unit. -/
def gates (p : FVec Ideal S4x8192x4096 .f32) : FVec Ideal S4x8192x1024 .f32 :=
  mulf (extractStridedSlice S4x8192x1024 ![0, 0, 3072] p slices_S4x8192x4096_S4x8192x1024_0_0_3072)
    (Host.divf (broadcastInDim S4x8192x1024 ![] bcast_S_S4x8192x1024 (constant S_ .f32 0x3F800000#32))
      (addf (broadcastInDim S4x8192x1024 ![] bcast_S_S4x8192x1024 (constant S_ .f32 0x3F800000#32))
        (Host.exp (Host.negf (extractStridedSlice S4x8192x1024 ![0, 0, 3072] p slices_S4x8192x4096_S4x8192x1024_0_0_3072)))))

/-- Queries, keys and gates, side by side. -/
def columns (p : FVec Ideal S4x8192x4096 .f32) : FVec Ideal S4x8192x3072 .bf16 :=
  truncf .bf16 (concatenate S4x8192x3072 2 [⟨S4x8192x1024, queries p⟩,
    ⟨S4x8192x1024, extractStridedSlice S4x8192x1024 ![0, 0, 1024] p slices_S4x8192x4096_S4x8192x1024_0_0_1024⟩, ⟨S4x8192x1024, gates p⟩]
    concatenates_S4x8192x1024_S4x8192x1024_S4x8192x1024_S4x8192x3072_d2) bitsLt_bf16_f32

/-- The values, laid out by key blocks and transposed. -/
def values (p : FVec Ideal S4x8192x4096 .f32) : FVec Ideal S4x8x32x128x256 .bf16 :=
  truncf .bf16 (transpose S4x8x32x128x256 [0, 3, 1, 4, 2]
    (shapeCast _ (extractStridedSlice S4x8192x1024 ![0, 0, 2048] p slices_S4x8192x4096_S4x8192x1024_0_0_2048) shapeCasts_S4x8192x1024_S4x32x256x8x128)
    transposes_S4x32x256x8x128_S4x8x32x128x256_0_3_1_4_2) bitsLt_bf16_f32

variable (m : (ℓ : Loc nD τ sig) → Buf (Elt Ideal) ℓ) (c : Dev nD)

/-- The stream, the product of its normed rows, over the arguments in memory. -/
def streamOf : FVec Ideal S4x8192x1024 .f32 :=
  stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

def productOf : FVec Ideal S4x8192x4096 .f32 :=
  product (normed (streamOf m c) (m ((c.tc : Thread nD τ).loc main_arg5)) (m ((c.tc : Thread nD τ).loc main_arg6))) (m ((c.tc : Thread nD τ).loc main_arg7))

theorem columns_eq : Value.res_main_v43 m c = columns (productOf m c) := rfl

/-- The reference's run, its results by stages. -/
theorem run (ρ : Dev nD → PrngReg) :
    θ_run defs (onTc (τ := τ) (main (F := Ideal))) ⟨m, fun _ => 0, ρ⟩ fun r => ∀ c : Dev nD,
      r.2.mem ((c.tc : Thread nD τ).loc main_v6) = streamOf m c
      ∧ r.2.mem ((c.tc : Thread nD τ).loc main_v43) = columns (productOf m c)
      ∧ r.2.mem ((c.tc : Thread nD τ).loc main_v44) = values (productOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run (F := Ideal) m ρ

end Cert.InReferenceIdeal.Proj

end
-- ==== Proof.InPoint.lean ====
/-
  The input projection, point by point.
-/
module

public import proofs.«01_k».proof.Proof.Gen.InKernelIdeal.Frame
public import proofs.«01_k».proof.Proof.InStages
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InKernelIdeal.Proj

open Cert.InKernelIdeal Cert.InKernelIdeal.Gen

variable (m : (ℓ : Loc nD τ sig) → Buf (Elt Ideal) ℓ)

/-- The block every window shows at a point. -/
theorem idx : ∀ t : Fin cfg0.N, win0_0.index t = ![t.val / 16, t.val % 16, 0]
    ∧ win0_1.index t = ![t.val / 16, t.val % 16, 0]
    ∧ win0_2.index t = ![0, 0]
    ∧ win0_3.index t = ![0, t.val / 16, 0, 0]
    ∧ win0_4.index t = ![t.val / 16, t.val % 16, 0]
    ∧ win0_5.index t = ![0, t.val / 16, 0, 0]
    ∧ win0_6.index t = ![0, 0]
    ∧ win0_7.index t = ![0, 0]
    ∧ win0_8.index t = ![0, 0]
    ∧ win0_9.index t = ![t.val / 16, t.val % 16, 0]
    ∧ win0_10.index t = ![t.val / 16, t.val % 16, 0]
    ∧ win0_11.index t = ![t.val / 16, 0, t.val % 16, 0, 0] :=
  (by decide +kernel : ∀ t : Fin grid0.N, _)

/-- The stream over the kernel's arguments. -/
def streamOf (c : Dev nD) : FVec Ideal S4x8192x1024 .f32 :=
  Cert.InReferenceIdeal.Proj.stream (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The normed rows over the kernel's arguments. -/
def normedOf (c : Dev nD) : FVec Ideal S4x8192x1024 .f32 :=
  Cert.InReferenceIdeal.Proj.normed (streamOf m c) (m ((c.tc : Thread nD τ).loc main_arg5)) (m ((c.tc : Thread nD τ).loc main_arg6))

/-- The product over the kernel's arguments. -/
def productOf (c : Dev nD) : FVec Ideal Cert.InReferenceIdeal.S4x8192x4096 .f32 :=
  Cert.InReferenceIdeal.Proj.product (normedOf m c) (m ((c.tc : Thread nD τ).loc main_arg7))

/-- The rows of the stream a point computes. -/
abbrev srow (c : Dev nD) (t : Fin cfg0.N) : FVec Ideal S512x1024 .f32 :=
  k0_pay3 (iblk m c 4 t) (View.ld (iblk m c 3 t) (Rect.unit ![2, 0, 0, 0] ![1, 1, 1, 1024] inb_S3x1x1x1024_S1x1x1x1024_2_0_0_0))
    (iblk m c 0 t) (View.ld (iblk m c 2 t) (Rect.unit ![0, 0] ![512, 1024] inb_S1024x1024_S512x1024_0_0))
    (iblk m c 1 t) (View.ld (iblk m c 2 t) (Rect.unit ![512, 0] ![512, 1024] inb_S1024x1024_S512x1024_512_0))

/-- The normed rows a point computes. -/
abbrev hrow (c : Dev nD) (t : Fin cfg0.N) : FVec Ideal S512x1024 .bf16 :=
  k0_pay6 (k0_pay5 (iblk m c 4 t) (View.ld (iblk m c 3 t) (Rect.unit ![2, 0, 0, 0] ![1, 1, 1, 1024] inb_S3x1x1x1024_S1x1x1x1024_2_0_0_0))
    (iblk m c 0 t) (View.ld (iblk m c 2 t) (Rect.unit ![0, 0] ![512, 1024] inb_S1024x1024_S512x1024_0_0))
    (iblk m c 1 t) (View.ld (iblk m c 2 t) (Rect.unit ![512, 0] ![512, 1024] inb_S1024x1024_S512x1024_512_0)))
    (iblk m c 6 t)
    (View.ld (iblk m c 5 t) (Rect.unit ![1, 0, 0, 0] ![1, 1, 1, 1024] inb_S3x1x1x1024_S1x1x1x1024_1_0_0_0))
    (View.ld (iblk m c 5 t) (Rect.unit ![0, 0, 0, 0] ![1, 1, 1, 1024] inb_S3x1x1x1024_S1x1x1x1024_0_0_0_0))

theorem srow_at (c : Dev nD) (t : Fin cfg0.N) (b : Fin 4) (s : Fin 8192) (r : Fin 512) (d : Fin 1024)
    (hb : b.val = t.val / 16) (hs : s.val = t.val % 16 * 512 + r.val) :
    srow m c t (ix2 r d) = streamOf m c (ix3 b s d) := by
  pointwise [srow, k0_pay3, streamOf, Cert.InReferenceIdeal.Proj.stream, Cert.InReferenceIdeal.Proj.gate]
  blk_point [iblk, V, idx t]

theorem hrow_at (c : Dev nD) (t : Fin cfg0.N) (b : Fin 4) (s : Fin 8192) (r : Fin 512) (d : Fin 1024)
    (hb : b.val = t.val / 16) (hs : s.val = t.val % 16 * 512 + r.val) :
    hrow m c t (ix2 r d) = normedOf m c (ix3 b s d) := by
  pointwise [hrow, k0_pay6, k0_pay5, normedOf, Cert.InReferenceIdeal.Proj.normed]
  simp only [srow_at m c t b s r _ hb hs]
  blk_point [iblk, V, idx t]

end Cert.InKernelIdeal.Proj

end
-- ==== Proof.InCols.lean ====
/-
  The columns of the product, piece by piece.
-/
module

public import proofs.«01_k».proof.Proof.InPoint

@[expose] public section

set_option maxRecDepth 16384

noncomputable section

open Idealize.ShloMosaic Idealize.ShloMosaic.TcCoe Idealize.SL.Sem
open Idealize.ShloMosaic.Pipeline (Dat)

namespace Cert.InKernelIdeal.Proj

open Cert.InKernelIdeal Cert.InKernelIdeal.Gen

variable (m : (ℓ : Loc nD τ sig) → Buf (Elt Ideal) ℓ)

/-- One column of the product. -/
theorem product_at (c : Dev nD) (t : Fin cfg0.N) (b : Fin 4) (s : Fin 8192) (r : Fin 512) (q : Fin 4096)
    (hb : b.val = t.val / 16) (hs : s.val = t.val % 16 * 512 + r.val) :
    (∑ k : Fin 1024, hrow m c t (ix2 r k) * (show FVec Ideal S1024x4096 .bf16 from iblk m c 7 t) (ix2 k q)) = productOf m c (ix3 b s q) := by
  simp only [hrow_at m c t b s r _ hb hs]
  pointwise [productOf, Cert.InReferenceIdeal.Proj.product]
  blk_point [iblk, V, idx t]

theorem eighth : Ideal.div (Ideal.ofBits FTy.f32 1040187392#32) (Ideal.log (Ideal.ofBits FTy.f32 1073741824#32)) = (((8 * Real.log 2)⁻¹ : ℝ) : EReal) := by
  have h8 : Ideal.ofBits FTy.f32 1040187392#32 = (((8 : ℝ)⁻¹ : ℝ) : EReal) := by
    simp [Ideal.ofBits, Ideal.ieee]
    rw [← EReal.coe_mul]
    norm_num
  have h2 : Ideal.ofBits FTy.f32 1073741824#32 = ((2 : ℝ) : EReal) := by
    simp [Ideal.ofBits, Ideal.ieee]
    rw [← EReal.coe_mul]
    norm_num
  have hp : (0 : ℝ) < Real.log 2 := Real.log_pos (by norm_num)
  rw [h8, h2, Ideal.log_coe, if_neg (by norm_num), Ideal.div, if_neg (by exact_mod_cast hp.ne'), ← EReal.coe_inv, ← EReal.coe_mul, mul_inv]

section Columns

variable (p : FVec Ideal Cert.InReferenceIdeal.S4x8192x4096 .f32) (b : Fin 4) (s : Fin 8192) (q : Fin 3072) (q' : Fin 4096)

theorem queries_at (h : q.val < 1024) (hq : q'.val = q.val) :
    Cert.InReferenceIdeal.Proj.columns p (ix3 b s q) = p (ix3 b s q') * (((8 * Real.log 2)⁻¹ : ℝ) : EReal) := by
  pointwise [Cert.InReferenceIdeal.Proj.columns, Cert.InReferenceIdeal.Proj.queries]
  rw [dif_pos h, eighth]
  refine Ideal.mul_congr (congrArg p ?_) rfl
  exact congrArg (ix3 b s) (Fin.ext hq.symm)

theorem keys_at (h : 1024 ≤ q.val) (h' : q.val < 2048) (hq : q'.val = q.val) : Cert.InReferenceIdeal.Proj.columns p (ix3 b s q) = p (ix3 b s q') := by
  pointwise [Cert.InReferenceIdeal.Proj.columns]
  rw [dif_neg (by omega), dif_pos (by omega)]
  exact congrArg (fun z => p (ix3 b s z)) (Fin.ext (by show 1024 + (q.val - 1024) = q'.val; omega))

theorem gates_at (h : 2048 ≤ q.val) (hq : q'.val = q.val + 1024) : Cert.InReferenceIdeal.Proj.columns p (ix3 b s q)
    = p (ix3 b s q') * Ideal.logistic (p (ix3 b s q')) := by
  pointwise [Cert.InReferenceIdeal.Proj.columns, Cert.InReferenceIdeal.Proj.gates]
  rw [dif_neg (by omega), dif_neg (by omega)]
  exact congrArg (fun z => p (ix3 b s z) * Ideal.logistic (p (ix3 b s z))) (Fin.ext (by show 3072 + (q.val - 1024 - 1024) = q'.val; omega))

variable (u : Fin 4) (g : Fin 8) (cb : Fin 32) (e : Fin 128) (n : Fin 256)

/-- The values' layout. -/
theorem values_at (hs : s.val = cb.val * 256 + n.val) (hq : q'.val = 2048 + g.val * 128 + e.val) :
    Cert.InReferenceIdeal.Proj.values p (ix5 u g cb e n) = p (ix3 u s q') := by
  pointwise [Cert.InReferenceIdeal.Proj.values]
  blk_ext []

end Columns

section Pieces

variable (c : Dev nD) (t : Fin cfg0.N) (i : Cert.InReferenceIdeal.S4x8192x3072.Idx) (r : Fin 512) (q : Fin 4096)
  (hb : (i 0).val = t.val / 16) (hs : (i 1).val = t.val % 16 * 512 + r.val)

include hb hs

theorem queries_piece (h : (i 2).val < 1024) (hq : q.val = (i 2).val) :
    (∑ k : Fin 1024, hrow m c t (ix2 r k) * (show FVec Ideal S1024x4096 .bf16 from iblk m c 7 t) (ix2 k q))
        * (Named.named (F := Ideal) κ "scale" (φ := .f32) 0x3E38AA3B#32 : EReal)
      = Cert.InReferenceIdeal.Proj.columns (productOf m c) i := by
  obtain ⟨b, s, z, rfl⟩ : ∃ b s z, i = ix3 b s z := ⟨i 0, i 1, i 2, by blk_ext []⟩
  rw [product_at m c t b s r q hb hs]
  exact (queries_at (productOf m c) b s z q h hq).symm

theorem keys_piece (h : 1024 ≤ (i 2).val) (h' : (i 2).val < 2048) (hq : q.val = (i 2).val) :
    (∑ k : Fin 1024, hrow m c t (ix2 r k) * (show FVec Ideal S1024x4096 .bf16 from iblk m c 7 t) (ix2 k q))
      = Cert.InReferenceIdeal.Proj.columns (productOf m c) i := by
  obtain ⟨b, s, z, rfl⟩ : ∃ b s z, i = ix3 b s z := ⟨i 0, i 1, i 2, by blk_ext []⟩
  rw [product_at m c t b s r q hb hs]
  exact (keys_at (productOf m c) b s z q h h' hq).symm

theorem gates_piece (h : 2048 ≤ (i 2).val) (hq : q.val = (i 2).val + 1024) :
    (∑ k : Fin 1024, hrow m c t (ix2 r k) * (show FVec Ideal S1024x4096 .bf16 from iblk m c 7 t) (ix2 k q))
        * Ideal.logistic (∑ k : Fin 1024, hrow m c t (ix2 r k) * (show FVec Ideal S1024x4096 .bf16 from iblk m c 7 t) (ix2 k q))
      = Cert.InReferenceIdeal.Proj.columns (productOf m c) i := by
  obtain ⟨b, s, z, rfl⟩ : ∃ b s z, i = ix3 b s z := ⟨i 0, i 1, i 2, by blk_ext []⟩
  rw [product_at m c t b s r q hb hs]
  exact (gates_at (productOf m c) b s z q h hq).symm

end Pieces

/-- One entry of the transposed values. -/
theorem values_piece (c : Dev nD) (t : Fin cfg0.N) (i : Cert.InReferenceIdeal.S4x8x32x128x256.Idx) (e : Fin 1024) (r : Fin 512)
    (h0 : (i 0).val = t.val / 16) (h1 : e.val = (i 1).val * 128 + (i 3).val) (h2 : t.val % 16 * 512 + r.val = (i 2).val * 256 + (i 4).val) :
    (∑ k : Fin 1024, (show FVec Ideal S1024x1024 .bf16 from iblk m c 8 t) (ix2 e k) * hrow m c t (ix2 r k))
      = Cert.InReferenceIdeal.Proj.values (productOf m c) i := by
  obtain ⟨b, g, cb, n, z, rfl⟩ : ∃ b g cb n z, i = ix5 b g cb n z := ⟨i 0, i 1, i 2, i 3, i 4, by blk_ext []⟩
  have hr := r.isLt
  refine Eq.trans ?_ (values_at (productOf m c) ⟨t.val % 16 * 512 + r.val, by omega⟩ ⟨2048 + e.val, by omega⟩ b g cb n z h2
    (by show 2048 + e.val = 2048 + g.val * 128 + n.val; have : e.val = g.val * 128 + n.val := h1; omega)).symm
  simp only [hrow_at m c t b ⟨t.val % 16 * 512 + r.val, by omega⟩ r _ h0 rfl]
  refine (Finset.sum_congr rfl fun k _ => mul_comm (G := EReal) _ _).trans ?_
  pointwise [productOf, Cert.InReferenceIdeal.Proj.product]
  blk_point [iblk, V, idx t]

end Cert.InKernelIdeal.Proj

end
-- ==== Proof.InFinal.lean ====
/-
  The input projection's three arrays after the run.
-/
module

public import proofs.«01_k».proof.Proof.InCols

@[expose] public section

set_option maxRecDepth 16384

noncomputable section

open Idealize.ShloMosaic Idealize.ShloMosaic.TcCoe Idealize.SL.Sem
open Idealize.ShloMosaic.Pipeline (Dat)

namespace Cert.InKernelIdeal.Proj

open Cert.InKernelIdeal Cert.InKernelIdeal.Gen

variable (m : (ℓ : Loc nD τ sig) → Buf (Elt Ideal) ℓ)

theorem final_stream (c : Dev nD) : (dats m 0 c).arrAt 9 (cfgs 0).N = streamOf m c := by
  refine (dats m 0 c).arrAt_eq_of_covers 9 _ (by decide +kernel) fun t hf y => ?_
  blk_simp; rw [after0_9]; unfold outsAt0; dsimp only; frame_out
  pointwise [k0_pay4]
  refine (srow_at m c t (((cfg0.win 9).blk t).view.emb y 0) (((cfg0.win 9).blk t).view.emb y 1) (y 1) (y 2) ?_ ?_).trans ?_
  · blk_simp [idx t] <;> omega
  · blk_simp [idx t] <;> omega
  · blk_ext [idx t]

theorem final_columns (c : Dev nD) : (dats m 0 c).arrAt 10 (cfgs 0).N = Cert.InReferenceIdeal.Proj.columns (productOf m c) := by
  refine (dats m 0 c).arrAt_eq_of_covers 10 _ (by decide +kernel) fun t hf y => ?_
  blk_simp; rw [after0_10]; unfold outsAt0; dsimp only; frame_out
  canon_tiles x h
  case piece0 =>
    pointwise [k0_pay2]
    refine gates_piece m c t _ (x 1) ⟨3584 + x 2, by omega⟩ ?_ ?_ ?_ ?_ <;> blk_simp [idx t] <;> (try (dsimp only; omega)) <;> (try omega)
  case piece1 =>
    pointwise [k0_pay1, k0_pay31, k0_pay32]
    refine gates_piece m c t _ (x 1) ⟨3072 + x 2, by omega⟩ ?_ ?_ ?_ ?_ <;> blk_simp [idx t] <;> (try (dsimp only; omega)) <;> (try omega)
  case piece2 =>
    pointwise [k0_pay30]
    refine keys_piece m c t _ (x 1) ⟨1536 + x 2, by omega⟩ ?_ ?_ ?_ ?_ ?_ <;> blk_simp [idx t] <;> (try (dsimp only; omega)) <;> (try omega)
  case piece3 =>
    pointwise [k0_pay29]
    refine keys_piece m c t _ (x 1) ⟨1024 + x 2, by omega⟩ ?_ ?_ ?_ ?_ ?_ <;> blk_simp [idx t] <;> (try (dsimp only; omega)) <;> (try omega)
  case piece4 =>
    pointwise [k0_pay28]
    refine queries_piece m c t _ (x 1) ⟨512 + x 2, by omega⟩ ?_ ?_ ?_ ?_ <;> blk_simp [idx t] <;> (try (dsimp only; omega)) <;> (try omega)
  case piece5 =>
    pointwise [k0_pay27]
    refine queries_piece m c t _ (x 1) ⟨x 2, by omega⟩ ?_ ?_ ?_ ?_ <;> blk_simp [idx t] <;> (try (dsimp only; omega)) <;> (try omega)

set_option maxHeartbeats 1600000 in
theorem final_values (c : Dev nD) : (dats m 0 c).arrAt 11 (cfgs 0).N = Cert.InReferenceIdeal.Proj.values (productOf m c) := by
  refine (dats m 0 c).arrAt_eq_of_covers 11 _ (by decide +kernel) fun t hf y => ?_
  blk_simp; rw [after0_11]; unfold outsAt0; dsimp only; frame_out
  canon_tiles x h
  case piece0 =>
    pointwise [k0_pay26, k0_pay7]
    refine values_piece m c t _ ⟨896 + x 3, by omega⟩ ⟨256 + x 4, by omega⟩ ?_ ?_ ?_ <;> blk_simp [idx t] <;> (try (dsimp only; omega)) <;> (try omega)
  case piece1 =>
    pointwise [k0_pay25, k0_pay7]
    refine values_piece m c t _ ⟨896 + x 3, by omega⟩ ⟨x 4, by omega⟩ ?_ ?_ ?_ <;> blk_simp [idx t] <;> (try (dsimp only; omega)) <;> (try omega)
  case piece2 =>
    pointwise [k0_pay24, k0_pay7]
    refine values_piece m c t _ ⟨768 + x 3, by omega⟩ ⟨256 + x 4, by omega⟩ ?_ ?_ ?_ <;> blk_simp [idx t] <;> (try (dsimp only; omega)) <;> (try omega)
  case piece3 =>
    pointwise [k0_pay23, k0_pay22, k0_pay7]
    refine values_piece m c t _ ⟨768 + x 3, by omega⟩ ⟨x 4, by omega⟩ ?_ ?_ ?_ <;> blk_simp [idx t] <;> (try (dsimp only; omega)) <;> (try omega)
  case piece4 =>
    pointwise [k0_pay21, k0_pay7]
    refine values_piece m c t _ ⟨640 + x 3, by omega⟩ ⟨256 + x 4, by omega⟩ ?_ ?_ ?_ <;> blk_simp [idx t] <;> (try (dsimp only; omega)) <;> (try omega)
  case piece5 =>
    pointwise [k0_pay20, k0_pay7]
    refine values_piece m c t _ ⟨640 + x 3, by omega⟩ ⟨x 4, by omega⟩ ?_ ?_ ?_ <;> blk_simp [idx t] <;> (try (dsimp only; omega)) <;> (try omega)
  case piece6 =>
    pointwise [k0_pay19, k0_pay7]
    refine values_piece m c t _ ⟨512 + x 3, by omega⟩ ⟨256 + x 4, by omega⟩ ?_ ?_ ?_ <;> blk_simp [idx t] <;> (try (dsimp only; omega)) <;> (try omega)
  case piece7 =>
    pointwise [k0_pay18, k0_pay7]
    refine values_piece m c t _ ⟨512 + x 3, by omega⟩ ⟨x 4, by omega⟩ ?_ ?_ ?_ <;> blk_simp [idx t] <;> (try (dsimp only; omega)) <;> (try omega)
  case piece8 =>
    pointwise [k0_pay17, k0_pay16, k0_pay7]
    refine values_piece m c t _ ⟨384 + x 3, by omega⟩ ⟨256 + x 4, by omega⟩ ?_ ?_ ?_ <;> blk_simp [idx t] <;> (try (dsimp only; omega)) <;> (try omega)
  case piece9 =>
    pointwise [k0_pay15, k0_pay7]
    refine values_piece m c t _ ⟨384 + x 3, by omega⟩ ⟨x 4, by omega⟩ ?_ ?_ ?_ <;> blk_simp [idx t] <;> (try (dsimp only; omega)) <;> (try omega)
  case piece10 =>
    pointwise [k0_pay14, k0_pay7]
    refine values_piece m c t _ ⟨256 + x 3, by omega⟩ ⟨256 + x 4, by omega⟩ ?_ ?_ ?_ <;> blk_simp [idx t] <;> (try (dsimp only; omega)) <;> (try omega)
  case piece11 =>
    pointwise [k0_pay13, k0_pay7]
    refine values_piece m c t _ ⟨256 + x 3, by omega⟩ ⟨x 4, by omega⟩ ?_ ?_ ?_ <;> blk_simp [idx t] <;> (try (dsimp only; omega)) <;> (try omega)
  case piece12 =>
    pointwise [k0_pay12, k0_pay7]
    refine values_piece m c t _ ⟨128 + x 3, by omega⟩ ⟨256 + x 4, by omega⟩ ?_ ?_ ?_ <;> blk_simp [idx t] <;> (try (dsimp only; omega)) <;> (try omega)
  case piece13 =>
    pointwise [k0_pay11, k0_pay7]
    refine values_piece m c t _ ⟨128 + x 3, by omega⟩ ⟨x 4, by omega⟩ ?_ ?_ ?_ <;> blk_simp [idx t] <;> (try (dsimp only; omega)) <;> (try omega)
  case piece14 =>
    pointwise [k0_pay10, k0_pay9, k0_pay7]
    refine values_piece m c t _ ⟨x 3, by omega⟩ ⟨256 + x 4, by omega⟩ ?_ ?_ ?_ <;> blk_simp [idx t] <;> (try (dsimp only; omega)) <;> (try omega)
  case piece15 =>
    pointwise [k0_pay8, k0_pay7]
    refine values_piece m c t _ ⟨x 3, by omega⟩ ⟨x 4, by omega⟩ ?_ ?_ ?_ <;> blk_simp [idx t] <;> (try (dsimp only; omega)) <;> (try omega)

end Cert.InKernelIdeal.Proj

end
-- ==== Proof.InValue.lean ====
/-
  The input projection's claims: frames, the named scale, and the value.
-/
module

public import proofs.«01_k».proof.Defs
public import proofs.«01_k».proof.Proof.Gen.InKernel.Frame
public import proofs.«01_k».proof.Proof.Gen.InReferenceIdeal
public import proofs.«01_k».proof.Proof.InFinal
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

theorem frame_inKernel : Cert.quiescent_InKernel := fun m g _ => Cert.InKernel.Gen.frame (F := Bits) m g

theorem frame_inKernelIdeal : Cert.quiescent_InKernelIdeal := fun m g _ => Cert.InKernelIdeal.Gen.frame (F := Ideal) m g

/-- The reference declares no semaphore. -/
theorem frame_inReference : Cert.quiescent_InReferenceIdeal := fun m g _ =>
  (θ_run Cert.InReferenceIdeal.defs _ _).mono (fun r h => ⟨fun c => (h c).2.2.2, sem_eq_zero_of_no_sems (by decide) r.2⟩)
    (Cert.InReferenceIdeal.Proj.run m g)

/-- The one rounded literal, named. -/
theorem named_in : Cert.preserves_InKernel_InKernelIdeal :=
  IdealRules.named_const.statement Cert.InKernelIdeal.κ "scale" .f32 0x3E38AA3B#32 (((8 * Real.log 2)⁻¹ : ℝ) : EReal) rfl

theorem value_in : Cert.algebraic_InKernelIdeal_InReferenceIdeal := by
  pair_intro
  · run_from Cert.InKernelIdeal.Gen.run_main m g
  · refine (θ_run Cert.InReferenceIdeal.defs _ _).mono (fun _ h c => ?_) (Cert.InReferenceIdeal.Proj.run m' g')
    obtain ⟨h0, h1, h2, h3, h4, h5, h6, h7⟩ := hagree c
    have hs : Cert.InReferenceIdeal.Proj.streamOf m' c = Cert.InKernelIdeal.Proj.streamOf m c := by
      have e := congr (congr (congr (congr (congrArg Cert.InReferenceIdeal.Proj.stream h0) h1) h2) h3) h4
      exact e
    have hp : Cert.InReferenceIdeal.Proj.productOf m' c = Cert.InKernelIdeal.Proj.productOf m c := by
      have e := congr (congrArg Cert.InReferenceIdeal.Proj.product (congr (congr (congrArg Cert.InReferenceIdeal.Proj.normed hs) h5) h6)) h7
      exact e
    refine ⟨((h c).1.trans hs).trans (Cert.InKernelIdeal.Proj.final_stream m c).symm,
      ((h c).2.1.trans (congrArg Cert.InReferenceIdeal.Proj.columns hp)).trans (Cert.InKernelIdeal.Proj.final_columns m c).symm,
      ((h c).2.2.1.trans (congrArg Cert.InReferenceIdeal.Proj.values hp)).trans (Cert.InKernelIdeal.Proj.final_values m c).symm, (h c).2.2.2⟩

end Cert.Proof

end
-- ==== Proof.CellsI.lean ====
/-
  Rectangles of the kernel's blocks read and overwritten at an index, and the rows and blocks its body's words name.
-/
module

public import proofs.«01_k».proof.Proof.PointI
public import Idealize.ShloMosaic.Lib.Pointwise

@[expose] public section

set_option maxRecDepth 16384

noncomputable section

namespace Cert.KernelIdeal.Stick

open Cert.KernelIdeal Cert.KernelIdeal.Gen Cert.Stick
open Idealize.ShloMosaic Idealize.ShloMosaic.TcCoe Idealize.SL.Sem

variable {α : Type}

/-- The keys' component `d` of lane `d` in row `n`. -/
def keyAt (X : S1x8192x512.Idx → α) (n d : ℕ) : α :=
  X (ix3 0 ⟨n % 8192, Nat.mod_lt _ (by decide)⟩ ⟨d % 512, Nat.mod_lt _ (by decide)⟩)

/-- The values of key `n`, head pair `p`, component `d`. -/
def valAt (X : S1x4x32x128x256.Idx → α) (p n : ℕ) (d : Fin 128) : α :=
  X (ix5 0 ⟨p % 4, Nat.mod_lt _ (by decide)⟩ ⟨n / 256 % 32, Nat.mod_lt _ (by decide)⟩ d ⟨n % 256, Nat.mod_lt _ (by decide)⟩)

/-- A column of the accumulator. -/
def colAt (w : S256x2048.Idx → α) (r : Fin 256) (c : ℕ) : α := w (ix2 r ⟨c % 2048, Nat.mod_lt _ (by decide)⟩)

theorem read_keys (X : S1x8192x512.Idx → α) (off : Fin 3 → ℕ) (inb) (a b : ℕ) (h : off = ![0, a, b]) (r : Fin 256) (d : Fin 128) :
    (show S1x256x128.Idx → α from rdU (s := S1x8192x512) off S1x256x128.size inb X) (ix3 0 r d) = keyAt X (a + r.val) (b + d.val) := by
  subst h
  have h1 : a + 256 ≤ 8192 := inb 1
  have h2 : b + 128 ≤ 512 := inb 2
  show X _ = X _
  refine congrArg X (funext fun x => Fin.ext ?_)
  match x with
  | ⟨0, _⟩ => rfl
  | ⟨1, _⟩ =>
    show a + 1 * r.val = (a + r.val) % 8192
    omega
  | ⟨2, _⟩ =>
    show b + 1 * d.val = (b + d.val) % 512
    omega

theorem read_vals (X : S1x4x32x128x256.Idx → α) (off : Fin 5 → ℕ) (inb) (p j : ℕ) (h : off = ![0, p, j, 0, 0]) (d : Fin 128) (r : Fin 256) :
    (show S1x1x1x128x256.Idx → α from rdU (s := S1x4x32x128x256) off S1x1x1x128x256.size inb X) (ix5 0 0 0 d r) = valAt X p (256 * j + r.val) d := by
  subst h
  have h1 : p + 1 ≤ 4 := inb 1
  have h2 : j + 1 ≤ 32 := inb 2
  show X _ = X _
  refine congrArg X (funext fun x => Fin.ext ?_)
  match x with
  | ⟨0, _⟩ => rfl
  | ⟨1, _⟩ =>
    show p + 1 * 0 = p % 4
    omega
  | ⟨2, _⟩ =>
    show j + 1 * 0 = (256 * j + r.val) / 256 % 32
    omega
  | ⟨3, _⟩ =>
    show 0 + 1 * d.val = d.val
    omega
  | ⟨4, _⟩ =>
    show 0 + 1 * r.val = (256 * j + r.val) % 256
    omega

theorem read_queries (X : S2048x128.Idx → α) (a : ℕ) (inb) (c : Fin 512) (d : Fin 128) (k : Fin 2048) (hk : k.val = a + c.val) :
    (show S512x128.Idx → α from rdU (s := S2048x128) ![a, 0] S512x128.size inb X) (ix2 c d) = X (ix2 k d) := by
  show X _ = X _
  refine congrArg X (funext fun x => Fin.ext ?_)
  match x with
  | ⟨0, _⟩ =>
    show a + 1 * c.val = k.val
    omega
  | ⟨1, _⟩ =>
    show 0 + 1 * d.val = d.val
    omega

theorem read_acc (X : S128x2048.Idx → α) (a : ℕ) (inb) (d : Fin 128) (c : Fin 512) (k : Fin 2048) (hk : k.val = a + c.val) :
    (show S128x512.Idx → α from rdU (s := S128x2048) ![0, a] S128x512.size inb X) (ix2 d c) = X (ix2 d k) := by
  show X _ = X _
  refine congrArg X (funext fun x => Fin.ext ?_)
  match x with
  | ⟨0, _⟩ =>
    show 0 + 1 * d.val = d.val
    omega
  | ⟨1, _⟩ =>
    show a + 1 * c.val = k.val
    omega

theorem read_half (X : S128x2048.Idx → α) (a : ℕ) (inb) (d : Fin 128) (c : Fin 256) (k : Fin 2048) (hk : k.val = a + c.val) :
    (show S128x256.Idx → α from rdU (s := S128x2048) ![0, a] S128x256.size inb X) (ix2 d c) = X (ix2 d k) := by
  show X _ = X _
  refine congrArg X (funext fun x => Fin.ext ?_)
  match x with
  | ⟨0, _⟩ =>
    show 0 + 1 * d.val = d.val
    omega
  | ⟨1, _⟩ =>
    show a + 1 * c.val = k.val
    omega

theorem read_lanes (X : S1x256x512.Idx → α) (a : ℕ) (inb) (r : Fin 256) (d : Fin 128) (k : Fin 512) (hk : k.val = a + d.val) :
    (show S1x256x128.Idx → α from rdU (s := S1x256x512) ![0, 0, a] S1x256x128.size inb X) (ix3 0 r d) = X (ix3 0 r k) := by
  show X _ = X _
  refine congrArg X (funext fun x => Fin.ext ?_)
  match x with
  | ⟨0, _⟩ => rfl
  | ⟨1, _⟩ =>
    show 0 + 1 * r.val = r.val
    omega
  | ⟨2, _⟩ =>
    show a + 1 * d.val = k.val
    omega

theorem read_run (X : S1x2048.Idx → α) (inb) (c : Fin 2048) :
    (show S1x2048.Idx → α from rdU (s := S1x2048) ![0, 0] S1x2048.size inb X) (ix2 0 c) = X (ix2 0 c) := by
  show X _ = X _
  refine congrArg X (funext fun x => Fin.ext ?_)
  match x with
  | ⟨0, _⟩ => rfl
  | ⟨1, _⟩ =>
    show 0 + 1 * c.val = c.val
    omega

theorem read_tri (X : S256x256.Idx → α) (inb) (r c : Fin 256) :
    (show S256x256.Idx → α from rdU (s := S256x256) ![0, 0] S256x256.size inb X) (ix2 r c) = X (ix2 r c) := by
  show X _ = X _
  refine congrArg X (funext fun x => Fin.ext ?_)
  match x with
  | ⟨0, _⟩ =>
    show 0 + 1 * r.val = r.val
    omega
  | ⟨1, _⟩ =>
    show 0 + 1 * c.val = c.val
    omega

theorem write_run (X : S1x2048.Idx → α) (inb) (w : S1x2048.Idx → α) (c : Fin 2048) :
    upU (s := S1x2048) ![0, 0] S1x2048.size inb X w (ix2 0 c) = w (ix2 0 c) := by
  unfold upU
  rw [dif_pos (fun a => by
    match a with
    | ⟨0, _⟩ => exact ⟨Nat.le_refl _, Nat.lt_succ_self _⟩
    | ⟨1, _⟩ => exact ⟨Nat.zero_le _, by show c.val < 0 + 2048; omega⟩)]
  refine congrArg w (funext fun x => Fin.ext ?_)
  match x with
  | ⟨0, _⟩ => rfl
  | ⟨1, _⟩ => rfl

theorem write_all (X : S128x2048.Idx → α) (inb) (w : S128x2048.Idx → α) (d : Fin 128) (c : Fin 2048) :
    upU (s := S128x2048) ![0, 0] S128x2048.size inb X w (ix2 d c) = w (ix2 d c) := by
  unfold upU
  rw [dif_pos (fun a => by
    match a with
    | ⟨0, _⟩ => exact ⟨Nat.zero_le _, by show d.val < 0 + 128; omega⟩
    | ⟨1, _⟩ => exact ⟨Nat.zero_le _, by show c.val < 0 + 2048; omega⟩)]
  refine congrArg w (funext fun x => Fin.ext ?_)
  match x with
  | ⟨0, _⟩ => rfl
  | ⟨1, _⟩ => rfl

/-- A store of 512 columns, at a column it writes. -/
theorem write_acc_in (X : S128x2048.Idx → α) (a : ℕ) (inb) (w : S128x512.Idx → α) (d : Fin 128) (c : Fin 2048) (k : Fin 512) (hk : c.val = a + k.val) :
    upU (s := S128x2048) ![0, a] S128x512.size inb X w (ix2 d c) = w (ix2 d k) := by
  unfold upU
  rw [dif_pos (fun x => by
    match x with
    | ⟨0, _⟩ => exact ⟨Nat.zero_le _, by show d.val < 0 + 128; omega⟩
    | ⟨1, _⟩ => exact ⟨by show a ≤ c.val; omega, by show c.val < a + 512; omega⟩)]
  refine congrArg w (funext fun x => Fin.ext ?_)
  match x with
  | ⟨0, _⟩ => rfl
  | ⟨1, _⟩ =>
    show c.val - a = k.val
    omega

/-- A store of 512 columns, at a column it leaves. -/
theorem write_acc_out (X : S128x2048.Idx → α) (a : ℕ) (inb) (w : S128x512.Idx → α) (d : Fin 128) (c : Fin 2048) (hk : ¬ (a ≤ c.val ∧ c.val < a + 512)) :
    upU (s := S128x2048) ![0, a] S128x512.size inb X w (ix2 d c) = X (ix2 d c) := by
  unfold upU
  rw [dif_neg fun h => hk (h 1)]

/-- A store of 128 lanes, at a lane it writes. -/
theorem write_lanes_in (X : S1x256x512.Idx → α) (a : ℕ) (inb) (w : S1x256x128.Idx → α) (r : Fin 256) (e : Fin 512) (k : Fin 128) (hk : e.val = a + k.val) :
    upU (s := S1x256x512) ![0, 0, a] S1x256x128.size inb X w (ix3 0 r e) = w (ix3 0 r k) := by
  unfold upU
  rw [dif_pos (fun x => by
    match x with
    | ⟨0, _⟩ => exact ⟨Nat.zero_le _, by show 0 < 0 + 1; omega⟩
    | ⟨1, _⟩ => exact ⟨Nat.zero_le _, by show r.val < 0 + 256; omega⟩
    | ⟨2, _⟩ => exact ⟨by show a ≤ e.val; omega, by show e.val < a + 128; omega⟩)]
  refine congrArg w (funext fun x => Fin.ext ?_)
  match x with
  | ⟨0, _⟩ => rfl
  | ⟨1, _⟩ => rfl
  | ⟨2, _⟩ =>
    show e.val - a = k.val
    omega

/-- A store of 128 lanes, at a lane it leaves. -/
theorem write_lanes_out (X : S1x256x512.Idx → α) (a : ℕ) (inb) (w : S1x256x128.Idx → α) (r : Fin 256) (e : Fin 512) (hk : ¬ (a ≤ e.val ∧ e.val < a + 128)) :
    upU (s := S1x256x512) ![0, 0, a] S1x256x128.size inb X w (ix3 0 r e) = X (ix3 0 r e) := by
  unfold upU
  rw [dif_neg fun h => hk (h 2)]

/-- A store of 256 rows, at a row it writes. -/
theorem write_rows_in (X : S2048x128.Idx → α) (a : ℕ) (inb) (w : S256x128.Idx → α) (c : Fin 2048) (d : Fin 128) (k : Fin 256) (hk : c.val = a + k.val) :
    upU (s := S2048x128) ![a, 0] S256x128.size inb X w (ix2 c d) = w (ix2 k d) := by
  unfold upU
  rw [dif_pos (fun x => by
    match x with
    | ⟨0, _⟩ => exact ⟨by show a ≤ c.val; omega, by show c.val < a + 256; omega⟩
    | ⟨1, _⟩ => exact ⟨Nat.zero_le _, by show d.val < 0 + 128; omega⟩)]
  refine congrArg w (funext fun x => Fin.ext ?_)
  match x with
  | ⟨0, _⟩ =>
    show c.val - a = k.val
    omega
  | ⟨1, _⟩ => rfl

/-- A store of 256 rows, at a row it leaves. -/
theorem write_rows_out (X : S2048x128.Idx → α) (a : ℕ) (inb) (w : S256x128.Idx → α) (c : Fin 2048) (d : Fin 128) (hk : ¬ (a ≤ c.val ∧ c.val < a + 256)) :
    upU (s := S2048x128) ![a, 0] S256x128.size inb X w (ix2 c d) = X (ix2 c d) := by
  unfold upU
  rw [dif_neg fun h => hk (h 0)]

/-! ## The rows and blocks the words name -/

/-- The block before a query block, or the first. -/
theorem prev_word (a : ℕ) (ha : a < 32) : Scalar.maxsi (Scalar.subi (BitVec.ofNat 32 a) 1#32) 0#32 = BitVec.ofNat 32 (a - 1) := by
  interval_cases a <;> rfl

theorem row_word (a : ℕ) (ha : a < 32) : (Scalar.muli (BitVec.ofNat 32 a) 256#32).toNat = 256 * a := by
  unfold Scalar.muli IntOp.muli
  simp only [BitVec.toNat_mul, BitVec.toNat_ofNat]
  omega

theorem block_nat (a : ℕ) (ha : a < 32) : (BitVec.ofNat 32 a).toNat = a := by
  simp only [BitVec.toNat_ofNat]
  omega

variable (i : grid0.Coords)

theorem off1_eq : k0_off1 i = ![0, 256 * (i 2).val, 0] := by
  simp only [k0_off1, Scalar.indexCast, row_word _ (coord_lt i)]
theorem off2_eq : k0_off2 i = ![0, 256 * (i 2).val, 128] := by
  simp only [k0_off2, Scalar.indexCast, row_word _ (coord_lt i)]
theorem off3_eq : k0_off3 i = ![0, 256 * (i 2).val, 256] := by
  simp only [k0_off3, Scalar.indexCast, row_word _ (coord_lt i)]
theorem off4_eq : k0_off4 i = ![0, 256 * (i 2).val, 384] := by
  simp only [k0_off4, Scalar.indexCast, row_word _ (coord_lt i)]

theorem prev_lt : (i 2).val - 1 < 32 := Nat.lt_of_le_of_lt (Nat.sub_le _ _) (coord_lt i)

theorem off5_eq : k0_off5 i = ![0, 256 * ((i 2).val - 1), 0] := by
  simp only [k0_off5, Scalar.indexCast, prev_word _ (coord_lt i), row_word _ (prev_lt i)]
theorem off6_eq : k0_off6 i = ![0, 256 * ((i 2).val - 1), 128] := by
  simp only [k0_off6, Scalar.indexCast, prev_word _ (coord_lt i), row_word _ (prev_lt i)]
theorem off7_eq : k0_off7 i = ![0, 256 * ((i 2).val - 1), 256] := by
  simp only [k0_off7, Scalar.indexCast, prev_word _ (coord_lt i), row_word _ (prev_lt i)]
theorem off8_eq : k0_off8 i = ![0, 256 * ((i 2).val - 1), 384] := by
  simp only [k0_off8, Scalar.indexCast, prev_word _ (coord_lt i), row_word _ (prev_lt i)]

theorem off9_eq : k0_off9 i = ![0, 0, (i 2).val, 0, 0] := by
  simp only [k0_off9, Scalar.indexCast, block_nat _ (coord_lt i)]
theorem off10_eq : k0_off10 i = ![0, 1, (i 2).val, 0, 0] := by
  simp only [k0_off10, Scalar.indexCast, block_nat _ (coord_lt i)]
theorem off11_eq : k0_off11 i = ![0, 2, (i 2).val, 0, 0] := by
  simp only [k0_off11, Scalar.indexCast, block_nat _ (coord_lt i)]
theorem off12_eq : k0_off12 i = ![0, 3, (i 2).val, 0, 0] := by
  simp only [k0_off12, Scalar.indexCast, block_nat _ (coord_lt i)]

theorem off13_eq : k0_off13 i = ![0, 0, (i 2).val - 1, 0, 0] := by
  simp only [k0_off13, Scalar.indexCast, prev_word _ (coord_lt i), block_nat _ (prev_lt i)]
theorem off14_eq : k0_off14 i = ![0, 1, (i 2).val - 1, 0, 0] := by
  simp only [k0_off14, Scalar.indexCast, prev_word _ (coord_lt i), block_nat _ (prev_lt i)]
theorem off15_eq : k0_off15 i = ![0, 2, (i 2).val - 1, 0, 0] := by
  simp only [k0_off15, Scalar.indexCast, prev_word _ (coord_lt i), block_nat _ (prev_lt i)]
theorem off16_eq : k0_off16 i = ![0, 3, (i 2).val - 1, 0, 0] := by
  simp only [k0_off16, Scalar.indexCast, prev_word _ (coord_lt i), block_nat _ (prev_lt i)]

variable (k : ℕ) (hk : k + 1 < (i 2).val)

include hk in
theorem trip_word : Scalar.subi (Scalar.subi (BitVec.ofNat 32 (i 2).val) 2#32) (BitVec.ofNat 32 k) = BitVec.ofNat 32 ((i 2).val - 2 - k) :=
  block_word _ k (coord_lt i) hk

include hk in
theorem trip_lt : (i 2).val - 2 - k < 32 := by
  have := coord_lt i
  omega

include hk in
theorem off17_eq : k0_off17 i (BitVec.ofNat 32 k) = ![0, 256 * ((i 2).val - 2 - k), 0] := by
  simp only [k0_off17, Scalar.indexCast, trip_word i k hk, row_word _ (trip_lt i k hk)]
include hk in
theorem off18_eq : k0_off18 i (BitVec.ofNat 32 k) = ![0, 256 * ((i 2).val - 2 - k), 128] := by
  simp only [k0_off18, Scalar.indexCast, trip_word i k hk, row_word _ (trip_lt i k hk)]
include hk in
theorem off19_eq : k0_off19 i (BitVec.ofNat 32 k) = ![0, 256 * ((i 2).val - 2 - k), 256] := by
  simp only [k0_off19, Scalar.indexCast, trip_word i k hk, row_word _ (trip_lt i k hk)]
include hk in
theorem off20_eq : k0_off20 i (BitVec.ofNat 32 k) = ![0, 256 * ((i 2).val - 2 - k), 384] := by
  simp only [k0_off20, Scalar.indexCast, trip_word i k hk, row_word _ (trip_lt i k hk)]
include hk in
theorem off21_eq : k0_off21 i (BitVec.ofNat 32 k) = ![0, 0, (i 2).val - 2 - k, 0, 0] := by
  simp only [k0_off21, Scalar.indexCast, trip_word i k hk, block_nat _ (trip_lt i k hk)]
include hk in
theorem off22_eq : k0_off22 i (BitVec.ofNat 32 k) = ![0, 1, (i 2).val - 2 - k, 0, 0] := by
  simp only [k0_off22, Scalar.indexCast, trip_word i k hk, block_nat _ (trip_lt i k hk)]
include hk in
theorem off23_eq : k0_off23 i (BitVec.ofNat 32 k) = ![0, 2, (i 2).val - 2 - k, 0, 0] := by
  simp only [k0_off23, Scalar.indexCast, trip_word i k hk, block_nat _ (trip_lt i k hk)]
include hk in
theorem off24_eq : k0_off24 i (BitVec.ofNat 32 k) = ![0, 3, (i 2).val - 2 - k, 0, 0] := by
  simp only [k0_off24, Scalar.indexCast, trip_word i k hk, block_nat _ (trip_lt i k hk)]

end Cert.KernelIdeal.Stick

end
-- ==== Proof.Soft.lean ====
/-
  Softplus over the extended reals, in base two and in base e, and the weight of a key that both give.
-/
module

public import Idealize.ShloMosaic.PureOps.Ideal

@[expose] public section

noncomputable section

namespace Cert.Stick

open Idealize.ShloMosaic

/-- One over the logarithm of two. -/
def invLog2 : EReal := (((Real.log 2)⁻¹ : ℝ) : EReal)

/-- Softplus of a score measured in base two, as the kernel spells it. -/
def sp2 (z : EReal) : EReal := max z 0 + Ideal.log (1 + Ideal.exp2 (0 - max z (-z))) * invLog2

/-- Softplus. -/
def sp (z : EReal) : EReal := max z 0 + Ideal.log (1 + Ideal.exp (-(max z (-z))))

theorem log2_pos : 0 < Real.log 2 := Real.log_pos one_lt_two

theorem invLog2_pos : (0 : ℝ) < (Real.log 2)⁻¹ := inv_pos.2 log2_pos

theorem invLog2_nonneg : 0 ≤ invLog2 := EReal.coe_nonneg.2 invLog2_pos.le

theorem invLog2_ne_top : invLog2 ≠ ⊤ := EReal.coe_ne_top _

/-- The factor `invLog2` distributes over every sum. -/
theorem add_mul_invLog2 (a b : EReal) : (a + b) * invLog2 = a * invLog2 + b * invLog2 :=
  EReal.right_distrib_of_nonneg_of_ne_top invLog2_nonneg invLog2_ne_top a b

/-- The factor `invLog2` distributes over every difference. -/
theorem sub_mul_invLog2 (a b : EReal) : (a - b) * invLog2 = a * invLog2 - b * invLog2 := by
  rw [sub_eq_add_neg, add_mul_invLog2, EReal.neg_mul, ← sub_eq_add_neg]

/-- The larger of two real numbers. -/
theorem coe_max' (a b : ℝ) : ((max a b : ℝ) : EReal) = max (a : EReal) b := EReal.coe_strictMono.monotone.map_max

/-- The real number softplus of a real number. -/
theorem sp_coe (r : ℝ) : sp r = ((max r 0 + Real.log (1 + Real.exp (-(max r (-r)))) : ℝ) : EReal) := by
  have hp : (0 : ℝ) < 1 + Real.exp (-(max r (-r))) := by positivity
  have h1 : Ideal.exp (-(max (r : EReal) (-r))) = ((Real.exp (-(max r (-r))) : ℝ) : EReal) := by
    rw [← EReal.coe_neg, ← coe_max', ← EReal.coe_neg]
    rfl
  unfold sp
  rw [h1, ← EReal.coe_one, ← EReal.coe_add]
  show max (r : EReal) 0 + (if _ ≤ _ then _ else _) = _
  rw [if_neg (not_le.2 hp), ← EReal.coe_zero, ← coe_max', ← EReal.coe_add]

theorem exp2_mul_invLog2 (x : EReal) : Ideal.exp2 (x * invLog2) = Ideal.exp x := by
  induction x with
  | bot => rw [invLog2, EReal.bot_mul_coe_of_pos invLog2_pos]; rfl
  | top => rw [invLog2, EReal.top_mul_coe_of_pos invLog2_pos]; rfl
  | coe r =>
    rw [invLog2, ← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos two_pos]
    congr 1
    field_simp [log2_pos.ne']

theorem sp_bot : sp ⊥ = 0 := by
  unfold sp
  rw [EReal.neg_bot, max_eq_right bot_le, max_eq_right bot_le, EReal.neg_top]
  show (0 : EReal) + Ideal.log (1 + 0) = 0
  rw [add_zero, zero_add, ← EReal.coe_one]
  show (if (1 : ℝ) ≤ 0 then _ else _) = _
  rw [if_neg (by norm_num), Real.log_one]
  rfl

theorem sp_top : sp ⊤ = ⊤ := by
  unfold sp
  rw [EReal.neg_top, max_eq_left bot_le, max_eq_left le_top, EReal.neg_top]
  show (⊤ : EReal) + Ideal.log (1 + 0) = ⊤
  rw [add_zero, ← EReal.coe_one]
  show ⊤ + (if (1 : ℝ) ≤ 0 then _ else _) = _
  rw [if_neg (by norm_num)]
  exact EReal.top_add_coe _

theorem sp_real_nonneg (r : ℝ) : 0 ≤ max r 0 + Real.log (1 + Real.exp (-(max r (-r)))) :=
  add_nonneg (le_max_right _ _) (Real.log_nonneg (by linarith [Real.exp_pos (-(max r (-r)))]))

theorem sp_nonneg (z : EReal) : 0 ≤ sp z := by
  induction z with
  | bot => rw [sp_bot]
  | top => rw [sp_top]; exact le_top
  | coe r => rw [sp_coe]; exact EReal.coe_nonneg.2 (sp_real_nonneg r)

/-- Multiplication by `invLog2` keeps the order. -/
theorem max_mul_invLog2 (a b : EReal) : max (a * invLog2) (b * invLog2) = max a b * invLog2 := by
  have hm : Monotone fun x : EReal => x * invLog2 := fun x y h => mul_le_mul_of_nonneg_right h invLog2_nonneg
  exact (hm.map_max).symm

/-- Softplus in base two is softplus over the logarithm of two. -/
theorem sp2_mul_invLog2 (z : EReal) : sp2 (z * invLog2) = sp z * invLog2 := by
  unfold sp2 sp
  have h0 : max (z * invLog2) 0 = max z 0 * invLog2 := by
    rw [← max_mul_invLog2, EReal.zero_mul]
  have h1 : 0 - max (z * invLog2) (-(z * invLog2)) = -(max z (-z)) * invLog2 := by
    rw [← EReal.neg_mul, max_mul_invLog2, EReal.neg_mul, sub_eq_add_neg, zero_add]
  rw [h0, h1, exp2_mul_invLog2, add_mul_invLog2]

theorem bot_mul_invLog2 : (⊥ : EReal) * invLog2 = ⊥ := EReal.bot_mul_coe_of_pos invLog2_pos

theorem sp2_bot : sp2 ⊥ = 0 := by
  rw [← bot_mul_invLog2, sp2_mul_invLog2, sp_bot, EReal.zero_mul]

/-- Softplus in base two is nowhere negative. -/
theorem sp2_nonneg (z : EReal) : 0 ≤ sp2 z := by
  have hz : z = (z * ((Real.log 2 : ℝ) : EReal)) * invLog2 := by
    rw [mul_assoc, invLog2, ← EReal.coe_mul, mul_inv_cancel₀ log2_pos.ne', EReal.coe_one, mul_one]
  rw [hz, sp2_mul_invLog2]
  exact EReal.mul_nonneg (sp_nonneg _) invLog2_nonneg

/-- Taking two nonnegative terms off one by one is taking off their sum. -/
theorem sub_sub_nonneg (x : EReal) {a b : EReal} (ha : 0 ≤ a) (hb : 0 ≤ b) : x - a - b = x - (a + b) := by
  have ha' : a ≠ ⊥ := fun h => by rw [h] at ha; exact absurd ha (by simp)
  have hb' : b ≠ ⊥ := fun h => by rw [h] at hb; exact absurd hb (by simp)
  rw [sub_eq_add_neg, sub_eq_add_neg, sub_eq_add_neg, EReal.neg_add (Or.inl ha') (Or.inr hb'), sub_eq_add_neg, add_assoc]

theorem sub_top' (x : EReal) : x - ⊤ = ⊥ := by
  rw [sub_eq_add_neg, EReal.neg_top, EReal.add_bot]

/-- The logarithm of a key's share, less the suffix, as the reference spells it. -/
theorem weight_arg (z T : EReal) (hT : 0 ≤ T) :
    Ideal.exp (-(sp (-z)) + (-(sp z + T) - -(sp z))) = Ideal.exp (z - (sp z + T)) := by
  induction z with
  | bot => rw [EReal.neg_bot, sp_top, EReal.neg_top, EReal.bot_add, EReal.bot_sub]
  | top =>
    have hT' : T ≠ ⊥ := fun h => by rw [h] at hT; exact absurd hT (by simp)
    rw [sp_top, EReal.neg_top, sp_bot, EReal.top_add_of_ne_bot hT', EReal.neg_top, sub_eq_add_neg ⊥, EReal.bot_add, EReal.add_bot, sub_top']
  | coe r =>
    induction T with
    | bot => exact absurd hT (by simp)
    | top =>
      rw [sp_coe r, EReal.coe_add_top, EReal.neg_top, sub_eq_add_neg ⊥, EReal.bot_add, EReal.add_bot, sub_top']
    | coe t =>
      rw [← EReal.coe_neg, sp_coe, sp_coe, ← EReal.coe_neg, ← EReal.coe_neg, ← EReal.coe_add, ← EReal.coe_neg, ← EReal.coe_sub, ← EReal.coe_add, ← EReal.coe_sub]
      congr 2
      have hm : max r (-r) = max (-r) (- -r) := by rw [neg_neg, max_comm]
      have h2 : max r 0 - max (-r) 0 = r := by
        rcases le_total r 0 with h | h
        · rw [max_eq_right h, max_eq_left (by linarith)]; ring
        · rw [max_eq_left h, max_eq_right (by linarith)]; ring
      rw [← hm]
      linarith

end Cert.Stick

end
-- ==== Proof.BlocksI.lean ====
/-
  The blocks a point reads, as entries of the arguments.
-/
module

public import proofs.«01_k».proof.Proof.RunI
public import proofs.«01_k».proof.Proof.CellsI
public import Idealize.ShloMosaic.Lib.Pipeline.ValueKit
public import Idealize.ShloMosaic.Lib.Claim
public import proofs.«01_k».proof.Proof.Soft
public import Idealize.ShloMosaic.Lib.WordCmp

@[expose] public section

set_option maxRecDepth 16384

noncomputable section

namespace Cert.KernelIdeal.Stick

open Cert.KernelIdeal Cert.KernelIdeal.Gen Cert.Stick
open Idealize.ShloMosaic Idealize.ShloMosaic.TcCoe Idealize.SL.Sem
open Idealize.ShloMosaic.Pipeline (Dat)

variable (m : (ℓ : Loc nD τ sig) → Buf (Elt Ideal) ℓ)

/-- The queries, scaled, the keys and the gate, side by side. -/
def uArr (q k g : FVec Ideal S4x8192x1024 .f32) : FVec Ideal S4x8192x3072 .bf16 :=
  truncf .bf16 (concatenate S4x8192x3072 2 [⟨S4x8192x1024, mulf q (broadcastInDim S4x8192x1024 ![] bcast_S_S4x8192x1024 (Host.divf (constant S_ .f32 0x3E000000#32) (Host.log (constant S_ .f32 0x40000000#32))))⟩, ⟨S4x8192x1024, k⟩,
    ⟨S4x8192x1024, mulf g (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf g))))⟩] concatenates_S4x8192x1024_S4x8192x1024_S4x8192x1024_S4x8192x3072_d2) bitsLt_bf16_f32

/-- The values, transposed block by block. -/
def vArr (v : FVec Ideal S4x8192x1024 .f32) : FVec Ideal S4x8x32x128x256 .bf16 :=
  truncf .bf16 (transpose S4x8x32x128x256 [0, 3, 1, 4, 2] (shapeCast S4x32x256x8x128 v shapeCasts_S4x8192x1024_S4x32x256x8x128) transposes_S4x32x256x8x128_S4x8x32x128x256_0_3_1_4_2) bitsLt_bf16_f32

/-- The triangle of ones. -/
def triArr : FVec Ideal S256x256 .bf16 :=
  uitofp .bf16 (cmpi .sge (broadcastInDim S256x256 ![0, 1] bcast_S1x256_S256x256_0_1 (broadcastInDim S1x256 ![1] bcast_S256_S1x256_1 (iotaInDim S256 32 0)))
    (broadcastInDim S256x256 ![0, 1] bcast_S256x1_S256x256_0_1 (broadcastInDim S256x1 ![0] bcast_S256_S256x1_0 (iotaInDim S256 32 0))))

/-- The blocks each window takes at a point. -/
theorem idx : ∀ t : Fin (cfg0 (F := Ideal)).N, win0_0.index t = ![0, 0]
    ∧ win0_1.index t = ![(grid0.coords t 0).val, (grid0.coords t 2).val, (grid0.coords t 1).val]
    ∧ win0_2.index t = ![(grid0.coords t 0).val, 0, 2 + (grid0.coords t 1).val]
    ∧ win0_3.index t = ![(grid0.coords t 0).val, (grid0.coords t 1).val, 0, 0, 0]
    ∧ win0_4.index t = ![(grid0.coords t 0).val, (grid0.coords t 2).val, 4 + (grid0.coords t 1).val]
    ∧ win0_5.index t = ![(grid0.coords t 0).val, (grid0.coords t 2).val, (grid0.coords t 1).val] :=
  (by decide +kernel : ∀ t : Fin grid0.N, _)

/-- The last operations of the host read only what the first fifteen leave. -/
theorem late (σ : Valuation τ sig (Elt Ideal)) : StableHlo.after (hostOps0 (F := Ideal)) σ = StableHlo.after ((hostOps0 (F := Ideal)).drop 15) (StableHlo.after ((hostOps0 (F := Ideal)).take 15) σ) := by
  rw [← StableHlo.after_append, List.take_append_drop]

theorem late_v12 (σ : Valuation τ sig (Elt Ideal)) : StableHlo.after ((hostOps0 (F := Ideal)).drop 15) σ (Proc.devRef .tc main_v12)
    = (truncf .bf16 (concatenate S4x8192x3072 2 [⟨S4x8192x1024, (σ (Proc.devRef .tc main_v3) : FVec Ideal S4x8192x1024 .f32)⟩, ⟨S4x8192x1024, (σ (Proc.devRef .tc main_arg1) : FVec Ideal S4x8192x1024 .f32)⟩,
    ⟨S4x8192x1024, (σ (Proc.devRef .tc main_v10) : FVec Ideal S4x8192x1024 .f32)⟩] concatenates_S4x8192x1024_S4x8192x1024_S4x8192x1024_S4x8192x3072_d2) bitsLt_bf16_f32 : FVec Ideal S4x8192x3072 .bf16) := by
  simp only [hostOps0, List.drop_succ_cons, List.drop_zero]
  after_results
  rfl

theorem early_v3 (σ : Valuation τ sig (Elt Ideal)) : StableHlo.after ((hostOps0 (F := Ideal)).take 15) σ (Proc.devRef .tc main_v3)
    = (mulf (σ (Proc.devRef .tc main_arg0) : FVec Ideal S4x8192x1024 .f32) (broadcastInDim S4x8192x1024 ![] bcast_S_S4x8192x1024 (Host.divf (constant S_ .f32 0x3E000000#32) (Host.log (constant S_ .f32 0x40000000#32)))) : FVec Ideal S4x8192x1024 .f32) := by
  simp only [hostOps0, List.take_succ_cons, List.take_zero]
  after_results

theorem early_arg1 (σ : Valuation τ sig (Elt Ideal)) : StableHlo.after ((hostOps0 (F := Ideal)).take 15) σ (Proc.devRef .tc main_arg1) = σ (Proc.devRef .tc main_arg1) := by
  simp only [hostOps0, List.take_succ_cons, List.take_zero]
  after_results

theorem early_v10 (σ : Valuation τ sig (Elt Ideal)) : StableHlo.after ((hostOps0 (F := Ideal)).take 15) σ (Proc.devRef .tc main_v10)
    = (mulf (σ (Proc.devRef .tc main_arg3) : FVec Ideal S4x8192x1024 .f32) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (σ (Proc.devRef .tc main_arg3) : FVec Ideal S4x8192x1024 .f32))))) : FVec Ideal S4x8192x1024 .f32) := by
  simp only [hostOps0, List.take_succ_cons, List.take_zero]
  after_results

/-- The queries, keys and gate side by side, as the call finds them. -/
theorem V12 (c : Dev nD) : V m c main_v12 = uArr (m ((c : Thread nD τ).loc main_arg0)) (m ((c : Thread nD τ).loc main_arg1)) (m ((c : Thread nD τ).loc main_arg3)) := by
  refine (congrFun (late _) _).trans ((late_v12 _).trans ?_)
  rw [early_v3, early_arg1, early_v10]
  rfl

theorem V15 (c : Dev nD) : V m c main_v15 = vArr (m ((c : Thread nD τ).loc main_arg2)) := by
  entry_read
  rfl

theorem V22 (c : Dev nD) : V m c main_v22 = triArr := by
  entry_read
  rfl

/-- The factor the queries carry: an eighth, over the logarithm of two. -/
theorem factor_eq : Ideal.div (Ideal.ofBits .f32 0x3E000000#32) (Ideal.log (Ideal.ofBits .f32 0x40000000#32)) = Ideal.ofBits .f32 0x3E000000#32 * invLog2 := by
  have h : (Ideal.ofBits .f32 0x40000000#32 : EReal) = ((2 : ℝ) : EReal) := by
    simp [Ideal.ofBits, Ideal.ieee]
    rw [← EReal.coe_mul]
    norm_num
  have h1 : Ideal.log ((2 : ℝ) : EReal) = ((Real.log 2 : ℝ) : EReal) := if_neg (by norm_num)
  rw [h, h1, Ideal.div, if_neg (fun e => log2_pos.ne' (EReal.coe_eq_zero.1 e)), ← EReal.coe_inv]
  rfl

section Arrays

variable (q k g v : FVec Ideal S4x8192x1024 .f32) (b : Fin 4) (n : Fin 8192) (e : Fin 3072)

theorem uArr_query (a : Fin 1024) (h : e.val = a.val) : (uArr q k g (ix3 b n e) : EReal) = q (ix3 b n a) * (Ideal.ofBits .f32 0x3E000000#32 * invLog2) := by
  have ha := a.isLt
  pointwise [uArr]
  rw [dif_pos (by omega), factor_eq]
  exact congrArg (· * _) (congrArg q (congrArg (ix3 b n) (Fin.ext h)))

theorem uArr_key (a : Fin 1024) (h : e.val = 1024 + a.val) : (uArr q k g (ix3 b n e) : EReal) = k (ix3 b n a) := by
  have ha := a.isLt
  pointwise [uArr]
  rw [dif_neg (by omega), dif_pos (by omega)]
  exact congrArg k (congrArg (ix3 b n) (Fin.ext (by show e.val - 1024 = a.val; omega)))

theorem uArr_gate (a : Fin 1024) (h : e.val = 2048 + a.val) :
    (uArr q k g (ix3 b n e) : EReal) = g (ix3 b n a) * Ideal.div 1 (1 + Ideal.exp (-(g (ix3 b n a)))) := by
  have ha := a.isLt
  pointwise [uArr]
  rw [dif_neg (by omega), dif_neg (by omega)]
  have hk : (⟨e.val - 1024 - 1024, by omega⟩ : Fin 1024) = a := Fin.ext (by show e.val - 1024 - 1024 = a.val; omega)
  rw [hk]

theorem vArr_at (p : Fin 8) (j : Fin 32) (d : Fin 128) (r : Fin 256) (n : Fin 8192) (a : Fin 1024) (hn : n.val = 256 * j.val + r.val) (ha : a.val = 128 * p.val + d.val) :
    (vArr v (ix5 b p j d r) : EReal) = v (ix3 b n a) := by
  pointwise [vArr]
  exact congrArg v (congr (congrArg (ix3 b) (Fin.ext (by show j.val * 256 + r.val = n.val; omega))) (Fin.ext (by show p.val * 128 + d.val = a.val; omega)))

theorem triArr_at (r y : Fin 256) : (triArr (ix2 r y) : EReal) = if r.val ≤ y.val then 1 else 0 := by
  pointwise [triArr]
  have hr := r.isLt
  have hy := y.isLt
  rw [WordCmp.cmpi_sge_of_lt (by simp; omega) (by simp; omega)]
  simp only [BitVec.toNat_ofNat, Nat.mod_eq_of_lt (show r.val < 2 ^ 32 by omega), Nat.mod_eq_of_lt (show y.val < 2 ^ 32 by omega)]
  by_cases h : r.val ≤ y.val
  · rw [if_pos h, decide_eq_true h]
    show (((1 : ℕ) : ℝ) : EReal) = 1
    norm_num
  · rw [if_neg h, decide_eq_false h]
    show (((0 : ℕ) : ℝ) : EReal) = 0
    norm_num

end Arrays

/-! ## Blocks -/

section Blocks

variable (c : Dev nD) (t : Fin (cfg0 (F := Ideal)).N)

/-- The arguments. -/
abbrev argQ : FVec Ideal S4x8192x1024 .f32 := m ((c : Thread nD τ).loc main_arg0)
abbrev argK : FVec Ideal S4x8192x1024 .f32 := m ((c : Thread nD τ).loc main_arg1)
abbrev argV : FVec Ideal S4x8192x1024 .f32 := m ((c : Thread nD τ).loc main_arg2)
abbrev argG : FVec Ideal S4x8192x1024 .f32 := m ((c : Thread nD τ).loc main_arg3)

theorem grid_lt : (grid0.coords t 0).val < 4 ∧ (grid0.coords t 1).val < 2 ∧ (grid0.coords t 2).val < 32 :=
  ⟨(grid0.coords t 0).isLt, (grid0.coords t 1).isLt, (grid0.coords t 2).isLt⟩

theorem tri_at (r y : Fin 256) : ((show FVec Ideal S256x256 .bf16 from iblk m c 0 t) (ix2 r y) : EReal) = if r.val ≤ y.val then 1 else 0 := by
  rw [← triArr_at r y, ← V22 m c]
  blk_ext [iblk, idx t]

theorem query_at (r : Fin 256) (e : Fin 512) (b : Fin 4) (n : Fin 8192) (a : Fin 1024) (hb : b.val = (grid0.coords t 0).val) (hn : n.val = 256 * (grid0.coords t 2).val + r.val) (ha : a.val = 512 * (grid0.coords t 1).val + e.val) :
    ((show FVec Ideal S1x256x512 .bf16 from iblk m c 1 t) (ix3 0 r e) : EReal) = argQ m c (ix3 b n a) * (Ideal.ofBits .f32 0x3E000000#32 * invLog2) := by
  rw [← uArr_query (argQ m c) (argK m c) (argG m c) b n ⟨a.val, by omega⟩ a rfl, ← V12 m c]
  blk_ext [iblk, idx t]

theorem key_at (n : ℕ) (e : Fin 512) (b : Fin 4) (n' : Fin 8192) (a : Fin 1024) (hb : b.val = (grid0.coords t 0).val) (hn : n = n'.val) (ha : a.val = 512 * (grid0.coords t 1).val + e.val) :
    keyAt (α := EReal) (show FVec Ideal S1x8192x512 .bf16 from iblk m c 2 t) n e.val = argK m c (ix3 b n' a) := by
  subst hn
  have he := e.isLt
  rw [← uArr_key (argQ m c) (argK m c) (argG m c) b n' ⟨1024 + a.val, by omega⟩ a rfl, ← V12 m c]
  unfold keyAt
  have h1 : (⟨n'.val % 8192, Nat.mod_lt _ (by decide)⟩ : Fin 8192) = n' := Fin.ext (by show n'.val % 8192 = n'.val; omega)
  have h2 : (⟨e.val % 512, Nat.mod_lt _ (by decide)⟩ : Fin 512) = e := Fin.ext (by show e.val % 512 = e.val; omega)
  rw [h1, h2]
  blk_ext [iblk, idx t]

theorem gate_at (r : Fin 256) (e : Fin 512) (b : Fin 4) (n : Fin 8192) (a : Fin 1024) (hb : b.val = (grid0.coords t 0).val) (hn : n.val = 256 * (grid0.coords t 2).val + r.val) (ha : a.val = 512 * (grid0.coords t 1).val + e.val) :
    ((show FVec Ideal S1x256x512 .bf16 from iblk m c 4 t) (ix3 0 r e) : EReal) = argG m c (ix3 b n a) * Ideal.div 1 (1 + Ideal.exp (-(argG m c (ix3 b n a)))) := by
  rw [← uArr_gate (argQ m c) (argK m c) (argG m c) b n ⟨2048 + a.val, by omega⟩ a rfl, ← V12 m c]
  blk_ext [iblk, idx t]

theorem value_at (p n : ℕ) (d : Fin 128) (b : Fin 4) (n' : Fin 8192) (a : Fin 1024) (hb : b.val = (grid0.coords t 0).val) (hn : n = n'.val) (hp : p < 4) (ha : a.val = 512 * (grid0.coords t 1).val + 128 * p + d.val) :
    valAt (α := EReal) (show FVec Ideal S1x4x32x128x256 .bf16 from iblk m c 3 t) p n d = argV m c (ix3 b n' a) := by
  subst hn
  have h0 := (grid_lt t).2.1
  rw [← vArr_at (argV m c) b ⟨4 * (grid0.coords t 1).val + p, by omega⟩ ⟨n'.val / 256, by omega⟩ d ⟨n'.val % 256, by omega⟩ n' a (by show n'.val = 256 * (n'.val / 256) + n'.val % 256; omega)
    (by show a.val = 128 * (4 * (grid0.coords t 1).val + p) + d.val; omega), ← V15 m c]
  unfold valAt
  have h1 : (⟨n'.val / 256 % 32, Nat.mod_lt _ (by decide)⟩ : Fin 32) = ⟨n'.val / 256, by omega⟩ := Fin.ext (by show n'.val / 256 % 32 = n'.val / 256; omega)
  have h2 : (⟨p % 4, Nat.mod_lt _ (by decide)⟩ : Fin 4) = ⟨p, hp⟩ := Fin.ext (by show p % 4 = p; omega)
  rw [h1, h2]
  blk_ext [iblk, idx t]

end Blocks

end Cert.KernelIdeal.Stick

end
-- ==== Proof.Column.lean ====
/-
  One query against its keys: the weights of the keys from the scores, the kernel's walk over blocks of keys from the
  latest to the earliest, and the reference's sum over all keys at once.
-/
module

public import proofs.«01_k».proof.Proof.Soft

@[expose] public section

noncomputable section

namespace Cert.Stick

open Idealize.ShloMosaic

/-- The sum of `P` from `s` up to `e`. -/
def tail (P : ℕ → EReal) (s e : ℕ) : EReal := ∑ n ∈ Finset.Ico s e, P n

theorem tail_split (P : ℕ → EReal) {s m e : ℕ} (h1 : s ≤ m) (h2 : m ≤ e) : tail P s e = tail P s m + tail P m e :=
  (Finset.sum_Ico_consecutive P h1 h2).symm

theorem tail_nonneg {P : ℕ → EReal} (hP : ∀ n, 0 ≤ P n) (s e : ℕ) : 0 ≤ tail P s e := Finset.sum_nonneg fun n _ => hP n

theorem tail_self (P : ℕ → EReal) (s : ℕ) : tail P s s = 0 := by
  unfold tail
  rw [Finset.Ico_self, Finset.sum_empty]

/-- A sum over a block of 256 from `b`. -/
theorem sum_block (f : ℕ → EReal) (b : ℕ) : ∑ r : Fin 256, f (b + r.val) = ∑ n ∈ Finset.Ico b (b + 256), f n := by
  rw [Finset.sum_Ico_eq_sum_range, Nat.add_sub_cancel_left, Finset.sum_range]

/-- The triangle of ones times a block sums its rows from one on. -/
theorem sum_triangle (P : ℕ → EReal) (b : ℕ) (r : Fin 256) :
    ∑ x : Fin 256, (if r.val ≤ x.val then (1 : EReal) else 0) * P (b + x.val) = tail P (b + r.val) (b + 256) := by
  have h : ∀ x : Fin 256, (if r.val ≤ x.val then (1 : EReal) else 0) * P (b + x.val)
      = (fun n => if b + r.val ≤ n then P n else 0) (b + x.val) := fun x => by
    by_cases hx : r.val ≤ x.val
    · simp only [hx, if_true, one_mul, Nat.add_le_add_iff_left]
    · simp only [hx, if_false, zero_mul, Nat.add_le_add_iff_left]
  refine (Finset.sum_congr rfl fun x _ => h x).trans ((sum_block (fun n => if b + r.val ≤ n then P n else 0) b).trans ?_)
  rw [← Finset.sum_filter]
  unfold tail
  refine Finset.sum_congr (Finset.ext fun n => ?_) fun _ _ => rfl
  simp only [Finset.mem_filter, Finset.mem_Ico]
  omega

/-- The score in base two of key `n` for query `t`: earlier keys only. -/
def score (x : ℕ → EReal) (t n : ℕ) : EReal := if n < t then x n * invLog2 else ⊥

/-- The weight of key `n` for query `t`, from keys up to `e`. -/
def weight (x : ℕ → EReal) (t e n : ℕ) : EReal := Ideal.exp2 (score x t n - tail (fun k => sp2 (score x t k)) n e)

theorem soft_nonneg (x : ℕ → EReal) (t n : ℕ) : 0 ≤ sp2 (score x t n) := sp2_nonneg _

/-- The kernel's weight: the suffix in the block and the running total come off one after the other. -/
theorem weight_block (x : ℕ → EReal) (t e n m : ℕ) (h1 : n ≤ m) (h2 : m ≤ e) :
    Ideal.exp2 (score x t n - tail (fun k => sp2 (score x t k)) n m - tail (fun k => sp2 (score x t k)) m e) = weight x t e n := by
  rw [sub_sub_nonneg _ (tail_nonneg (soft_nonneg x t) _ _) (tail_nonneg (soft_nonneg x t) _ _), ← tail_split _ h1 h2]
  rfl

/-- Keys past the query have no softplus. -/
theorem soft_past (x : ℕ → EReal) (t n : ℕ) (h : t ≤ n) : sp2 (score x t n) = 0 := by
  unfold score
  rw [if_neg (by omega), sp2_bot]

/-- Keys past the query have no weight. -/
theorem weight_past (x : ℕ → EReal) (t e n : ℕ) (h : t ≤ n) : weight x t e n = 0 := by
  unfold weight score
  rw [if_neg (by omega), EReal.bot_sub]
  rfl

/-- Keys before a point where the suffix is infinite have no weight. -/
theorem weight_spent (x : ℕ → EReal) (t e n m : ℕ) (h1 : n ≤ m) (h2 : m ≤ e)
    (hm : tail (fun k => sp2 (score x t k)) m e = ⊤) : weight x t e n = 0 := by
  rw [← weight_block x t e n m h1 h2, hm, sub_top']
  rfl

/-- The suffix stops mattering past the query. -/
theorem tail_past (x : ℕ → EReal) (t s e N : ℕ) (h1 : s ≤ e) (h2 : t ≤ e) (h3 : e ≤ N) :
    tail (fun k => sp2 (score x t k)) s N = tail (fun k => sp2 (score x t k)) s e := by
  rw [tail_split _ h1 h3]
  have : tail (fun k => sp2 (score x t k)) e N = 0 :=
    Finset.sum_eq_zero fun n hn => soft_past x t n (h2.trans (Finset.mem_Ico.1 hn).1)
  rw [this, add_zero]

theorem neg_sum_nonneg (P : ℕ → EReal) (hP : ∀ n, 0 ≤ P n) (A : Finset ℕ) : ∑ n ∈ A, -(P n) = -(∑ n ∈ A, P n) := by
  induction A using Finset.induction_on with
  | empty => rw [Finset.sum_empty, Finset.sum_empty, neg_zero]
  | insert a A ha ih =>
    have h1 : P a ≠ ⊥ := fun h => by have := hP a; rw [h] at this; exact absurd this (by simp)
    have h2 : ∑ n ∈ A, P n ≠ ⊥ := fun h => by
      have := Finset.sum_nonneg fun n (_ : n ∈ A) => hP n
      rw [h] at this
      exact absurd this (by simp)
    rw [Finset.sum_insert ha, Finset.sum_insert ha, ih, EReal.neg_add (Or.inl h1) (Or.inr h2), sub_eq_add_neg]

/-- The reference's weight of a key before the query is the kernel's. -/
theorem weight_ref (x : ℕ → EReal) (t e N n : ℕ) (hn : n < t) (h2 : t ≤ e) (h3 : e ≤ N) :
    Ideal.exp (-(sp (-(x n))) + ((∑ k ∈ Finset.Ico n N, if k < t then -(sp (x k)) else 0) - -(sp (x n)))) = weight x t e n := by
  have hS : ∀ k, (if k < t then -(sp (x k)) else 0) = -(if k < t then sp (x k) else 0) := fun k => by
    by_cases hk : k < t
    · rw [if_pos hk, if_pos hk]
    · rw [if_neg hk, if_neg hk, neg_zero]
  have hP : ∀ k, 0 ≤ (if k < t then sp (x k) else 0) := fun k => by
    by_cases hk : k < t
    · rw [if_pos hk]; exact sp_nonneg _
    · rw [if_neg hk]
  have hL : ∀ k, sp2 (score x t k) = (if k < t then sp (x k) else 0) * invLog2 := fun k => by
    unfold score
    by_cases hk : k < t
    · rw [if_pos hk, if_pos hk, sp2_mul_invLog2]
    · rw [if_neg hk, if_neg hk, sp2_bot, EReal.zero_mul]
  have hT : ∀ A : Finset ℕ, ∑ k ∈ A, sp2 (score x t k) = (∑ k ∈ A, if k < t then sp (x k) else 0) * invLog2 := fun A => by
    induction A using Finset.induction_on with
    | empty => rw [Finset.sum_empty, Finset.sum_empty, EReal.zero_mul]
    | insert a A ha ih => rw [Finset.sum_insert ha, Finset.sum_insert ha, add_mul_invLog2, ih, hL]
  rw [Finset.sum_congr rfl fun k _ => hS k, neg_sum_nonneg _ hP, Finset.sum_eq_sum_Ico_succ_bot (by omega : n < N), if_pos hn,
    weight_arg _ _ (Finset.sum_nonneg fun k _ => hP k)]
  unfold weight
  rw [← tail_past x t n e N (by omega) h2 h3]
  unfold tail
  rw [hT, Finset.sum_eq_sum_Ico_succ_bot (by omega : n < N), if_pos hn]
  have hz : score x t n = x n * invLog2 := by unfold score; rw [if_pos hn]
  rw [hz, ← sub_mul_invLog2, exp2_mul_invLog2]

/-- The reference's sum over all keys is the kernel's over the blocks up to the query's. -/
theorem sum_ref (x v : ℕ → EReal) (t e N : ℕ) (h2 : t ≤ e) (h3 : e ≤ N) :
    (∑ n ∈ Finset.range N, v n * (if n < t then
        Ideal.exp (-(sp (-(x n))) + ((∑ k ∈ Finset.Ico n N, if k < t then -(sp (x k)) else 0) - -(sp (x n)))) else 0))
      = ∑ n ∈ Finset.Ico 0 e, v n * weight x t e n := by
  have h : ∀ n, v n * (if n < t then
        Ideal.exp (-(sp (-(x n))) + ((∑ k ∈ Finset.Ico n N, if k < t then -(sp (x k)) else 0) - -(sp (x n)))) else 0)
      = v n * weight x t e n := fun n => by
    by_cases hn : n < t
    · rw [if_pos hn, weight_ref x t e N n hn h2 h3]
    · rw [if_neg hn, weight_past x t e n (by omega)]
  rw [Finset.sum_congr rfl fun n _ => h n, Finset.range_eq_Ico, ← Finset.sum_Ico_consecutive _ (Nat.zero_le e) h3]
  rw [Finset.sum_eq_zero (s := Finset.Ico e N) fun n hn => by
    rw [weight_past x t e n (h2.trans (Finset.mem_Ico.1 hn).1), mul_zero], add_zero]

end Cert.Stick

end
-- ==== Proof.PayI.lean ====
/-
  The body's values read at an index, over the extended reals: scores, suffix sums, weights, and a block's contribution
  to the accumulator.
-/
module

public import proofs.«01_k».proof.Proof.CellsI
public import proofs.«01_k».proof.Proof.Column
public import Idealize.ShloMosaic.Lib.WordCmp

@[expose] public section

set_option maxRecDepth 16384

noncomputable section

namespace Cert.KernelIdeal.Stick

open Cert.KernelIdeal Cert.KernelIdeal.Gen Cert.Stick
open Idealize.ShloMosaic Idealize.ShloMosaic.TcCoe Idealize.SL.Sem

/-! ## Scores -/

/-- The score in base two of key `n` for column `c`. -/
def raw (X5 : Vec Ideal S1x8192x512 .bf16) (Q : Vec Ideal S2048x128 .bf16) (c : Fin 2048) (n : ℕ) : EReal :=
  ∑ d : Fin 128, keyAt (α := EReal) X5 n (128 * (c.val / 512) + d.val) * (show EReal from Q (ix2 c d))

theorem scores_pay (k0 k1 k2 k3 : Vec Ideal S1x256x128 .bf16) (q0 q1 q2 q3 : Vec Ideal S512x128 .bf16)
    (X5 : Vec Ideal S1x8192x512 .bf16) (Q : Vec Ideal S2048x128 .bf16) (b : ℕ)
    (h0 : ∀ (r : Fin 256) (d : Fin 128), k0 (ix3 0 r d) = keyAt X5 (b + r.val) (0 + d.val))
    (h1 : ∀ (r : Fin 256) (d : Fin 128), k1 (ix3 0 r d) = keyAt X5 (b + r.val) (128 + d.val))
    (h2 : ∀ (r : Fin 256) (d : Fin 128), k2 (ix3 0 r d) = keyAt X5 (b + r.val) (256 + d.val))
    (h3 : ∀ (r : Fin 256) (d : Fin 128), k3 (ix3 0 r d) = keyAt X5 (b + r.val) (384 + d.val))
    (g0 : ∀ (c : Fin 512) (d : Fin 128) (k : Fin 2048), k.val = 0 + c.val → q0 (ix2 c d) = Q (ix2 k d))
    (g1 : ∀ (c : Fin 512) (d : Fin 128) (k : Fin 2048), k.val = 512 + c.val → q1 (ix2 c d) = Q (ix2 k d))
    (g2 : ∀ (c : Fin 512) (d : Fin 128) (k : Fin 2048), k.val = 1024 + c.val → q2 (ix2 c d) = Q (ix2 k d))
    (g3 : ∀ (c : Fin 512) (d : Fin 128) (k : Fin 2048), k.val = 1536 + c.val → q3 (ix2 c d) = Q (ix2 k d))
    (r : Fin 256) (c : Fin 2048) :
    k0_pay60 (F := Ideal) k0 q0 k1 q1 k2 q2 k3 q3 (ix2 r c) = raw X5 Q c (b + r.val) := by
  pointwise [k0_pay60]
  unfold raw
  have hc := c.isLt
  by_cases c0 : c.val < 512
  · rw [dif_pos c0]
    refine Finset.sum_congr rfl fun d _ => Ideal.mul_congr ?_ ?_
    · rw [h0, show c.val / 512 = 0 by omega]
    · exact g0 _ d c (by show c.val = 0 + c.val; omega)
  rw [dif_neg c0]
  by_cases c1 : c.val - 512 < 512
  · rw [dif_pos c1]
    refine Finset.sum_congr rfl fun d _ => Ideal.mul_congr ?_ ?_
    · rw [h1, show c.val / 512 = 1 by omega]
    · exact g1 _ d c (by show c.val = 512 + (c.val - 512); omega)
  rw [dif_neg c1]
  by_cases c2 : c.val - 512 - 512 < 512
  · rw [dif_pos c2]
    refine Finset.sum_congr rfl fun d _ => Ideal.mul_congr ?_ ?_
    · rw [h2, show c.val / 512 = 2 by omega]
    · exact g2 _ d c (by show c.val = 1024 + (c.val - 512 - 512); omega)
  rw [dif_neg c2]
  refine Finset.sum_congr rfl fun d _ => Ideal.mul_congr ?_ ?_
  · rw [h3, show c.val / 512 = 3 by omega]
  · exact g3 _ d c (by show c.val = 1536 + (c.val - 512 - 512 - 512); omega)

section Scores

variable (i : grid0.Coords) (X5 : Vec Ideal S1x8192x512 .bf16) (Q : Vec Ideal S2048x128 .bf16)

theorem zDiag_at (r : Fin 256) (c : Fin 2048) : zDiag (F := Ideal) i X5 Q (ix2 r c) = raw X5 Q c (256 * (i 2).val + r.val) :=
  scores_pay _ _ _ _ _ _ _ _ X5 Q _ (read_keys X5 _ _ _ _ (off1_eq i)) (read_keys X5 _ _ _ _ (off2_eq i)) (read_keys X5 _ _ _ _ (off3_eq i)) (read_keys X5 _ _ _ _ (off4_eq i))
    (read_queries Q 0 _) (read_queries Q 512 _) (read_queries Q 1024 _) (read_queries Q 1536 _) r c

theorem zP_at (r : Fin 256) (c : Fin 2048) : zP (F := Ideal) i X5 Q (ix2 r c) = raw X5 Q c (256 * ((i 2).val - 1) + r.val) :=
  scores_pay _ _ _ _ _ _ _ _ X5 Q _ (read_keys X5 _ _ _ _ (off5_eq i)) (read_keys X5 _ _ _ _ (off6_eq i)) (read_keys X5 _ _ _ _ (off7_eq i)) (read_keys X5 _ _ _ _ (off8_eq i))
    (read_queries Q 0 _) (read_queries Q 512 _) (read_queries Q 1024 _) (read_queries Q 1536 _) r c

theorem zLoop_at (k : ℕ) (hk : k + 1 < (i 2).val) (h) (r : Fin 256) (c : Fin 2048) :
    zLoop (F := Ideal) i (BitVec.ofNat 32 k) h X5 Q (ix2 r c) = raw X5 Q c (256 * ((i 2).val - 2 - k) + r.val) :=
  scores_pay _ _ _ _ _ _ _ _ X5 Q _ (read_keys X5 _ _ _ _ (off17_eq i k hk)) (read_keys X5 _ _ _ _ (off18_eq i k hk)) (read_keys X5 _ _ _ _ (off19_eq i k hk)) (read_keys X5 _ _ _ _ (off20_eq i k hk))
    (read_queries Q 0 _) (read_queries Q 512 _) (read_queries Q 1024 _) (read_queries Q 1536 _) r c

/-- Comparing small numbers' words is comparing the numbers. -/
theorem cmp_word (a b : ℕ) (ha : a < 2048) (hb : b < 2048) : IntOp.cmpi .slt (BitVec.ofNat 32 a) (BitVec.ofNat 32 b) = BitVec.ofBool (decide (a < b)) := by
  rw [WordCmp.cmpi_slt_of_lt (by simp; omega) (by simp; omega)]
  simp [Nat.mod_eq_of_lt (show a < 4294967296 by omega), Nat.mod_eq_of_lt (show b < 4294967296 by omega)]

/-- The mask of the diagonal block, as a condition: the key is before the query. -/
theorem mask_word (r : Fin 256) (c : Fin 2048) :
    IntOp.cmpi .slt (BitVec.ofNat 32 r.val) (IntOp.andi (BitVec.ofNat 32 c.val) 255#32) = 1#1 ↔ r.val < c.val % 256 := by
  have hr := r.isLt
  have hc := c.isLt
  have h1 : IntOp.andi (BitVec.ofNat 32 c.val) 255#32 = BitVec.ofNat 32 (c.val % 256) := by
    apply BitVec.eq_of_toNat_eq
    unfold IntOp.andi
    rw [BitVec.toNat_and, BitVec.toNat_ofNat, BitVec.toNat_ofNat, BitVec.toNat_ofNat]
    have := Nat.and_two_pow_sub_one_eq_mod c.val 8
    norm_num at this
    rw [Nat.mod_eq_of_lt (by omega : c.val < 2 ^ 32), Nat.mod_eq_of_lt (by omega : 255 < 2 ^ 32), this]
    omega
  rw [h1, cmp_word _ _ (by omega) (by omega)]
  by_cases h : r.val < c.val % 256
  · simp only [h, decide_true, iff_true]
    rfl
  · simp only [h, decide_false, iff_false]
    decide

theorem zM_at (r : Fin 256) (c : Fin 2048) : zM (F := Ideal) i X5 Q (ix2 r c)
    = if r.val < c.val % 256 then raw X5 Q c (256 * (i 2).val + r.val) else ⊥ := by
  unfold zM
  pointwise [k0_pay29, k0_pay27, k0_pay28]
  by_cases h : r.val < c.val % 256
  · rw [if_pos h, (mask_word r c).2 h]
    exact zDiag_at i X5 Q r c
  · rw [if_neg h]
    exact if_neg fun e => h ((mask_word r c).1 e)

end Scores

/-! ## Suffix sums of the softplus -/

/-- The softplus of a block times the triangle of ones. -/
def csum (T : FVec Ideal S256x256 .bf16) (z : FVec Ideal S256x2048 .f32) (r : Fin 256) (c : Fin 2048) : EReal :=
  ∑ x : Fin 256, (show EReal from T (ix2 r x)) * sp2 (z (ix2 x c))

theorem log2e_eq : (Named.named (F := Ideal) κ "log2e" (φ := .f32) 0x3FB8AA3B#32 : EReal) = invLog2 := rfl

theorem sum_pay (T : FVec Ideal S256x256 .bf16) (z : FVec Ideal S256x2048 .f32) (k0 k1 k2 k3 : Vec Ideal S1x256x128 .bf16) (q0 q1 q2 q3 : Vec Ideal S512x128 .bf16)
    (hz : k0_pay60 (F := Ideal) k0 q0 k1 q1 k2 q2 k3 q3 = z) (r : Fin 256) (c : Fin 2048) :
    k0_pay63 (F := Ideal) T (k0_pay61 k0 q0 k1 q1 k2 q2 k3 q3) (k0_pay62 k0 q0 k1 q1 k2 q2 k3 q3) (ix2 r c) = csum T z r c := by
  pointwise [k0_pay63, k0_pay61, k0_pay62, hz]
  rfl

theorem csD_at (i : grid0.Coords) (X5 : Vec Ideal S1x8192x512 .bf16) (Q : Vec Ideal S2048x128 .bf16) (T : FVec Ideal S256x256 .bf16) (r : Fin 256) (c : Fin 2048) :
    csD (F := Ideal) i X5 Q T (ix2 r c) = csum T (zM i X5 Q) r c := by
  unfold csD zM
  generalize k0_pay27 = m
  generalize k0_pay28 (F := Ideal) = b
  generalize zDiag (F := Ideal) i X5 Q = z
  pointwise [k0_pay30]
  rfl

theorem csP_at (i : grid0.Coords) (X5 : Vec Ideal S1x8192x512 .bf16) (Q : Vec Ideal S2048x128 .bf16) (T : FVec Ideal S256x256 .bf16) (r : Fin 256) (c : Fin 2048) :
    csP (F := Ideal) i X5 Q T (ix2 r c) = csum T (zP i X5 Q) r c := by
  unfold csP csPrev zP zPrev
  generalize zPrev0 (F := Ideal) i X5 Q = z0
  generalize zPrev1 (F := Ideal) i X5 Q = z1
  generalize zPrev2 (F := Ideal) i X5 Q = z2
  generalize kPrev3 (F := Ideal) i X5 = k3
  generalize rdU (s := S2048x128) ![1536, 0] S512x128.size inb_S2048x128_S512x128_1536_0 Q = q3
  have h : ∀ z : FVec Ideal S256x2048 .f32, k0_pay35 (F := Ideal) z0 z1 z2 k3 q3 = z → k0_pay36 (F := Ideal) T z0 z1 z2 k3 q3 (ix2 r c) = csum T z r c := fun z hz => by
    pointwise [k0_pay36, hz]
    rfl
  exact h _ rfl

theorem tripCs_at (i : grid0.Coords) (jj : BitVec 32) (h) (X5 : Vec Ideal S1x8192x512 .bf16) (Q : Vec Ideal S2048x128 .bf16) (T : FVec Ideal S256x256 .bf16) (r : Fin 256) (c : Fin 2048) :
    tripCs (F := Ideal) i jj h X5 Q T (ix2 r c) = csum T (zLoop i jj h X5 Q) r c :=
  sum_pay T (zLoop i jj h X5 Q) _ _ _ _ _ _ _ _ rfl r c

theorem triT_at (X3 : Vec Ideal S256x256 .bf16) (r c : Fin 256) : triT (F := Ideal) X3 (ix2 r c) = X3 (ix2 r c) := by
  unfold triT
  refine Eq.trans ?_ (read_tri X3 inb_S256x256_S256x256_0_0 r c)
  generalize rdU (s := S256x256) ![0, 0] S256x256.size inb_S256x256_S256x256_0_0 X3 = y
  pointwise [k0_pay23]

/-! ## Weights -/

theorem wD_at (z s : FVec Ideal S256x2048 .f32) (r : Fin 256) (c : Fin 2048) :
    k0_pay38 (F := Ideal) z s (ix2 r c) = Ideal.exp2 (z (ix2 r c) - s (ix2 r c) - 0) := by
  pointwise [k0_pay38, k0_pay37]
  rfl

theorem wP_at (z s : FVec Ideal S256x2048 .f32) (R : FVec Ideal S1x2048 .f32) (r : Fin 256) (c : Fin 2048) :
    k0_pay46 (F := Ideal) R (k0_pay45 z s) (ix2 r c) = Ideal.exp2 (z (ix2 r c) - s (ix2 r c) - R (ix2 0 c)) := by
  pointwise [k0_pay46, k0_pay45]
  rfl

theorem wL_at (T : FVec Ideal S256x256 .bf16) (z a b : FVec Ideal S256x2048 .f32) (R : FVec Ideal S1x2048 .f32) (r : Fin 256) (c : Fin 2048) :
    k0_pay64 (F := Ideal) T z a b R (ix2 r c) = Ideal.exp2 (z (ix2 r c) - k0_pay63 (F := Ideal) T a b (ix2 r c) - R (ix2 0 c)) := by
  pointwise [k0_pay64]
  rfl

/-! ## Running totals -/

theorem runD_at (i : grid0.Coords) (s : FVec Ideal S256x2048 .f32) (c : Fin 2048) :
    runD (F := Ideal) i s (ix2 0 c) = s (ix2 0 c) + (if (i 2).val = 0 then ⊤ else 0) := by
  unfold runD
  pointwise [k0_pay44, k0_pay37]
  have h : ∀ a : Fin 32, Scalar.cmpi .sgt (BitVec.ofNat 32 a.val) 0#32 = if a.val = 0 then 0#1 else 1#1 := by decide
  have h1 := h ⟨(i 2).val, coord_lt i⟩
  dsimp only at h1
  rw [h1]
  by_cases h0 : (i 2).val = 0
  · rw [if_pos h0, if_pos h0]
    rfl
  · rw [if_neg h0, if_neg h0]
    rfl

theorem runPrev_at (X10 : Vec Ideal S1x2048 .f32) (s : FVec Ideal S256x2048 .f32) (R : FVec Ideal S1x2048 .f32) (c : Fin 2048) :
    runPrev (F := Ideal) X10 s R (ix2 0 c) = R (ix2 0 c) + s (ix2 0 c) := by
  refine (write_run X10 _ _ c).trans ?_
  pointwise [k0_pay53, k0_pay52]

theorem runLoop_at (X10 : Vec Ideal S1x2048 .f32) (s : FVec Ideal S256x2048 .f32) (c : Fin 2048) :
    runLoop (F := Ideal) X10 s (runRead X10) (ix2 0 c) = X10 (ix2 0 c) + s (ix2 0 c) := by
  refine (write_run X10 _ _ c).trans ?_
  have h := read_run X10 inb_S1x2048_S1x2048_0_0 c
  unfold runRead
  revert h
  generalize rdU (s := S1x2048) ![0, 0] S1x2048.size inb_S1x2048_S1x2048_0_0 X10 = y
  intro h
  pointwise [k0_pay5, k0_pay4]
  exact Ideal.add_congr h rfl

theorem bound_eq : (bound (F := Ideal) : EReal) = ⊤ := rfl

theorem inf_word : (Ideal.ofBits .f32 0x7F800000#32 : EReal) = ⊤ := by
  simp [Ideal.ofBits, Ideal.ieee]

/-- A least value that is not under `⊤` is `⊤` throughout. -/
theorem least_top {ι : Type} [Fintype ι] (f : ι → EReal) (h : ¬ Finset.fold min (⊤ : EReal) f Finset.univ < ⊤) (x : ι) : f x = ⊤ := by
  have h1 := (Finset.le_fold_min (s := Finset.univ) (f := f) (b := (⊤ : EReal)) ⊤).1 (not_lt.1 h)
  exact top_le_iff.1 (h1.2 x (Finset.mem_univ x))

/-- Where no column's running total is under the bound, every one is infinite. -/
theorem flagP_at (s : FVec Ideal S256x2048 .f32) (R : FVec Ideal S1x2048 .f32) (h : flagP (F := Ideal) s R ≠ 1#1) (c : Fin 2048) :
    R (ix2 0 c) + s (ix2 0 c) = ⊤ := by
  have e : k0_pay54 (F := Ideal) s R = Finset.fold min (⊤ : EReal) (fun x : Fin 1 × Fin 2048 => R (ix2 0 x.2) + s (ix2 0 x.2)) Finset.univ := by
    pointwise [k0_pay54, k0_pay52, inf_word]
  refine least_top (fun x : Fin 1 × Fin 2048 => R (ix2 0 x.2) + s (ix2 0 x.2)) (fun hlt => h ?_) (0, c)
  unfold flagP
  rw [e, bound_eq]
  show BitVec.ofBool (decide _) = 1#1
  rw [decide_eq_true hlt]
  rfl

/-- The same of the flag at the end of a trip. -/
theorem tripFlag_at (s : FVec Ideal S256x2048 .f32) (R : FVec Ideal S1x2048 .f32)
    (h : Scalar.cmpf .olt (k0_pay6 (F := Ideal) s R) (bound (F := Ideal)) ≠ 1#1) (c : Fin 2048) :
    R (ix2 0 c) + s (ix2 0 c) = ⊤ := by
  have e : k0_pay6 (F := Ideal) s R = Finset.fold min (⊤ : EReal) (fun x : Fin 1 × Fin 2048 => R (ix2 0 x.2) + s (ix2 0 x.2)) Finset.univ := by
    pointwise [k0_pay6, k0_pay4, inf_word]
  refine least_top (fun x : Fin 1 × Fin 2048 => R (ix2 0 x.2) + s (ix2 0 x.2)) (fun hlt => h ?_) (0, c)
  rw [e, bound_eq]
  show BitVec.ofBool (decide _) = 1#1
  rw [decide_eq_true hlt]
  rfl

end Cert.KernelIdeal.Stick

end
-- ==== Proof.AccI.lean ====
/-
  A block's contribution to the accumulator: four matrix products, each added into a quarter of its columns.
-/
module

public import proofs.«01_k».proof.Proof.PayI

@[expose] public section

set_option maxRecDepth 16384

noncomputable section

namespace Cert.KernelIdeal.Stick

open Cert.KernelIdeal Cert.KernelIdeal.Gen Cert.Stick
open Idealize.ShloMosaic Idealize.ShloMosaic.TcCoe Idealize.SL.Sem

/-- What block `j` adds at component `d` of column `c`, by its weights `w`. -/
def part (X6 : S1x4x32x128x256.Idx → EReal) (j : ℕ) (w : S256x2048.Idx → EReal) (d : Fin 128) (c : Fin 2048) : EReal :=
  ∑ r : Fin 256, valAt X6 (c.val / 512) (256 * j + r.val) d * w (ix2 r c)

/-- Storing a quarter that has its part added leaves that quarter, too, with its part added. -/
theorem quarter (A A' : S128x2048.Idx → EReal) (f : Fin 128 → Fin 2048 → EReal) (a : ℕ) (inb) (W : S128x512.Idx → EReal)
    (hA : ∀ d c, A' (ix2 d c) = A (ix2 d c) + if c.val < a then f d c else 0)
    (hW : ∀ d (c' : Fin 512) (c : Fin 2048), c.val = a + c'.val → W (ix2 d c') = A' (ix2 d c) + f d c) (d : Fin 128) (c : Fin 2048) :
    upU (s := S128x2048) ![0, a] S128x512.size inb A' W (ix2 d c) = A (ix2 d c) + if c.val < a + 512 then f d c else 0 := by
  by_cases h : a ≤ c.val ∧ c.val < a + 512
  · rw [write_acc_in A' a inb W d c ⟨c.val - a, by omega⟩ (by show c.val = a + (c.val - a); omega),
      hW d ⟨c.val - a, by omega⟩ c (by show c.val = a + (c.val - a); omega), hA, if_neg (by omega), if_pos h.2, add_zero]
  · rw [write_acc_out A' a inb W d c h, hA]
    by_cases h1 : c.val < a
    · rw [if_pos h1, if_pos (by omega)]
    · rw [if_neg h1, if_neg (by omega)]

/-- A quarter's product, from the values and weights it reads. -/
theorem quarter_sum (X6 : S1x4x32x128x256.Idx → EReal) (j q a : ℕ) (ha : a = 512 * q) (hq : a + 512 ≤ 2048) (A' : S128x2048.Idx → EReal) (inb) (v : S1x1x1x128x256.Idx → EReal)
    (w : S256x2048.Idx → EReal) (W : S128x512.Idx → EReal) (hv : ∀ d r, v (ix5 0 0 0 d r) = valAt X6 q (256 * j + r.val) d)
    (hW : ∀ d (c' : Fin 512), W (ix2 d c') = (show S128x512.Idx → EReal from rdU (s := S128x2048) ![0, a] S128x512.size inb A') (ix2 d c')
      + ∑ r : Fin 256, v (ix5 0 0 0 d r) * w (ix2 r ⟨a + c'.val, by omega⟩))
    (d : Fin 128) (c' : Fin 512) (c : Fin 2048) (hc : c.val = a + c'.val) : W (ix2 d c') = A' (ix2 d c) + part X6 j w d c := by
  rw [hW, read_acc A' a inb d c' c hc]
  refine congrArg (A' (ix2 d c) + ·) (Finset.sum_congr rfl fun r _ => ?_)
  rw [hv, show c.val / 512 = q by omega]
  exact congrArg (_ * w ·) (congrArg (ix2 r) (Fin.ext hc.symm))

/-- The four quarters. -/
theorem quarters (X6 : S1x4x32x128x256.Idx → EReal) (j : ℕ) (A : S128x2048.Idx → EReal) (v0 v1 v2 v3 : S1x1x1x128x256.Idx → EReal) (w : S256x2048.Idx → EReal) (W0 W1 W2 W3 : S128x512.Idx → EReal)
    (i0 i1 i2 i3)
    (hv0 : ∀ d r, v0 (ix5 0 0 0 d r) = valAt X6 0 (256 * j + r.val) d)
    (hv1 : ∀ d r, v1 (ix5 0 0 0 d r) = valAt X6 1 (256 * j + r.val) d)
    (hv2 : ∀ d r, v2 (ix5 0 0 0 d r) = valAt X6 2 (256 * j + r.val) d)
    (hv3 : ∀ d r, v3 (ix5 0 0 0 d r) = valAt X6 3 (256 * j + r.val) d)
    (h0 : ∀ d (c' : Fin 512), W0 (ix2 d c') = (show S128x512.Idx → EReal from rdU (s := S128x2048) ![0, 0] S128x512.size i0 A) (ix2 d c') + ∑ r : Fin 256, v0 (ix5 0 0 0 d r) * w (ix2 r ⟨0 + c'.val, by omega⟩))
    (h1 : ∀ d (c' : Fin 512), W1 (ix2 d c') = (show S128x512.Idx → EReal from rdU (s := S128x2048) ![0, 512] S128x512.size i1 (upU (s := S128x2048) ![0, 0] S128x512.size i0 A W0)) (ix2 d c') + ∑ r : Fin 256, v1 (ix5 0 0 0 d r) * w (ix2 r ⟨512 + c'.val, by omega⟩))
    (h2 : ∀ d (c' : Fin 512), W2 (ix2 d c') = (show S128x512.Idx → EReal from rdU (s := S128x2048) ![0, 1024] S128x512.size i2 (upU (s := S128x2048) ![0, 512] S128x512.size i1 (upU (s := S128x2048) ![0, 0] S128x512.size i0 A W0) W1)) (ix2 d c') + ∑ r : Fin 256, v2 (ix5 0 0 0 d r) * w (ix2 r ⟨1024 + c'.val, by omega⟩))
    (h3 : ∀ d (c' : Fin 512), W3 (ix2 d c') = (show S128x512.Idx → EReal from rdU (s := S128x2048) ![0, 1536] S128x512.size i3 (upU (s := S128x2048) ![0, 1024] S128x512.size i2 (upU (s := S128x2048) ![0, 512] S128x512.size i1 (upU (s := S128x2048) ![0, 0] S128x512.size i0 A W0) W1) W2)) (ix2 d c') + ∑ r : Fin 256, v3 (ix5 0 0 0 d r) * w (ix2 r ⟨1536 + c'.val, by omega⟩))
    (d : Fin 128) (c : Fin 2048) :
    upU (s := S128x2048) ![0, 1536] S128x512.size i3 (upU (s := S128x2048) ![0, 1024] S128x512.size i2 (upU (s := S128x2048) ![0, 512] S128x512.size i1 (upU (s := S128x2048) ![0, 0] S128x512.size i0 A W0) W1) W2) W3 (ix2 d c)
      = A (ix2 d c) + part X6 j w d c := by
  have e0 := quarter A A (part X6 j w) 0 i0 W0 (fun d c => by rw [if_neg (Nat.not_lt_zero _), add_zero]) (quarter_sum X6 j 0 0 rfl (by omega) A i0 v0 w W0 hv0 h0)
  have e1 := quarter A _ (part X6 j w) 512 i1 W1 e0 (quarter_sum X6 j 1 512 rfl (by omega) _ i1 v1 w W1 hv1 h1)
  have e2 := quarter A _ (part X6 j w) 1024 i2 W2 e1 (quarter_sum X6 j 2 1024 rfl (by omega) _ i2 v2 w W2 hv2 h2)
  have e3 := quarter A _ (part X6 j w) 1536 i3 W3 e2 (quarter_sum X6 j 3 1536 rfl (by omega) _ i3 v3 w W3 hv3 h3)
  rw [e3, if_pos (by have := c.isLt; omega)]

/-! ## The payloads -/

section Pay

variable (z s : FVec Ideal S256x2048 .f32) (R : FVec Ideal S1x2048 .f32) (w : FVec Ideal S256x2048 .bf16) (T : FVec Ideal S256x256 .bf16) (x y : FVec Ideal S256x2048 .f32)
  (a : Vec Ideal S128x512 .f32) (v : Vec Ideal S1x1x1x128x256 .bf16) (d : Fin 128) (c : Fin 512)

theorem pay39_at : (k0_pay39 (F := Ideal) z s a v (ix2 d c) : EReal) = a (ix2 d c) + ∑ r : Fin 256, v (ix5 0 0 0 d r) * k0_pay38 (F := Ideal) z s (ix2 r ⟨0 + c.val, by omega⟩) := by
  unfold k0_pay39
  generalize k0_pay38 (F := Ideal) z s = w
  pointwise []

theorem pay41_at : (k0_pay41 (F := Ideal) w a (k0_pay40 v) (ix2 d c) : EReal) = a (ix2 d c) + ∑ r : Fin 256, v (ix5 0 0 0 d r) * w (ix2 r ⟨512 + c.val, by omega⟩) := by
  pointwise [k0_pay41, k0_pay40]

theorem pay42_at : (k0_pay42 (F := Ideal) w a v (ix2 d c) : EReal) = a (ix2 d c) + ∑ r : Fin 256, v (ix5 0 0 0 d r) * w (ix2 r ⟨1024 + c.val, by omega⟩) := by
  pointwise [k0_pay42]

theorem pay43_at : (k0_pay43 (F := Ideal) w a v (ix2 d c) : EReal) = a (ix2 d c) + ∑ r : Fin 256, v (ix5 0 0 0 d r) * w (ix2 r ⟨1536 + c.val, by omega⟩) := by
  pointwise [k0_pay43]

theorem pay47_at : (k0_pay47 (F := Ideal) R s a v (ix2 d c) : EReal) = a (ix2 d c) + ∑ r : Fin 256, v (ix5 0 0 0 d r) * k0_pay46 (F := Ideal) R s (ix2 r ⟨0 + c.val, by omega⟩) := by
  unfold k0_pay47
  generalize k0_pay46 (F := Ideal) R s = w
  pointwise []

theorem pay48_at : (k0_pay48 (F := Ideal) R s a v (ix2 d c) : EReal) = a (ix2 d c) + ∑ r : Fin 256, v (ix5 0 0 0 d r) * k0_pay46 (F := Ideal) R s (ix2 r ⟨512 + c.val, by omega⟩) := by
  unfold k0_pay48
  generalize k0_pay46 (F := Ideal) R s = w
  pointwise []

theorem pay50_at : (k0_pay50 (F := Ideal) (k0_pay49 R s a v) (ix2 d c) : EReal) = a (ix2 d c) + ∑ r : Fin 256, v (ix5 0 0 0 d r) * k0_pay46 (F := Ideal) R s (ix2 r ⟨1024 + c.val, by omega⟩) := by
  unfold k0_pay50 k0_pay49
  generalize k0_pay46 (F := Ideal) R s = w
  pointwise []

theorem pay51_at : (k0_pay51 (F := Ideal) w a v (ix2 d c) : EReal) = a (ix2 d c) + ∑ r : Fin 256, v (ix5 0 0 0 d r) * w (ix2 r ⟨1536 + c.val, by omega⟩) := by
  pointwise [k0_pay51]

theorem pay65_at : (k0_pay65 (F := Ideal) T z x y R a v (ix2 d c) : EReal) = a (ix2 d c) + ∑ r : Fin 256, v (ix5 0 0 0 d r) * k0_pay64 (F := Ideal) T z x y R (ix2 r ⟨0 + c.val, by omega⟩) := by
  unfold k0_pay65
  generalize k0_pay64 (F := Ideal) T z x y R = w
  pointwise []

theorem pay66_at : (k0_pay66 (F := Ideal) T z x y R a v (ix2 d c) : EReal) = a (ix2 d c) + ∑ r : Fin 256, v (ix5 0 0 0 d r) * k0_pay64 (F := Ideal) T z x y R (ix2 r ⟨512 + c.val, by omega⟩) := by
  unfold k0_pay66
  generalize k0_pay64 (F := Ideal) T z x y R = w
  pointwise []

theorem pay2_at : (k0_pay2 (F := Ideal) w a v (ix2 d c) : EReal) = a (ix2 d c) + ∑ r : Fin 256, v (ix5 0 0 0 d r) * w (ix2 r ⟨1024 + c.val, by omega⟩) := by
  pointwise [k0_pay2]

theorem pay3_at : (k0_pay3 (F := Ideal) w a v (ix2 d c) : EReal) = a (ix2 d c) + ∑ r : Fin 256, v (ix5 0 0 0 d r) * w (ix2 r ⟨1536 + c.val, by omega⟩) := by
  pointwise [k0_pay3]

end Pay

/-! ## The accumulator after a block -/

variable (i : grid0.Coords) (X6 : Vec Ideal S1x4x32x128x256 .bf16)

theorem accD_at (X11 : Vec Ideal S128x2048 .f32) (z s : FVec Ideal S256x2048 .f32) (d : Fin 128) (c : Fin 2048) :
    (accD (F := Ideal) i X6 X11 z s (ix2 d c) : EReal) = part X6 (i 2).val (k0_pay38 (F := Ideal) z s) d c := by
  unfold accD accDiag accDiag0 accOne vDiagOne
  refine (quarters X6 (i 2).val (accClear X11 (k0_pay24 (F := Ideal))) _ _ _ _ (k0_pay38 (F := Ideal) z s) _ _ _ _ _ _ _ _
    (read_vals X6 _ _ _ _ (off9_eq i)) (read_vals X6 _ _ _ _ (off10_eq i)) (read_vals X6 _ _ _ _ (off11_eq i)) (read_vals X6 _ _ _ _ (off12_eq i))
    (pay39_at z s _ _) (pay41_at _ _ _) (pay42_at _ _ _) (pay43_at _ _ _) d c).trans ?_
  have h : (accClear (F := Ideal) X11 (k0_pay24 (F := Ideal)) (ix2 d c) : EReal) = 0 := by
    refine (write_all X11 _ _ d c).trans ?_
    pointwise [k0_pay25, k0_pay24]
  rw [h, zero_add]

theorem accP_at (A : Vec Ideal S128x2048 .f32) (R : FVec Ideal S1x2048 .f32) (s : FVec Ideal S256x2048 .f32) (d : Fin 128) (c : Fin 2048) :
    (accP (F := Ideal) i X6 A R s (ix2 d c) : EReal) = A (ix2 d c) + part X6 ((i 2).val - 1) (k0_pay46 (F := Ideal) R s) d c := by
  unfold accP accPrev accPrev0 accTwo
  exact quarters X6 ((i 2).val - 1) A _ _ _ _ (k0_pay46 (F := Ideal) R s) _ _ _ _ _ _ _ _
    (read_vals X6 _ _ _ _ (off13_eq i)) (read_vals X6 _ _ _ _ (off14_eq i)) (read_vals X6 _ _ _ _ (off15_eq i)) (read_vals X6 _ _ _ _ (off16_eq i))
    (pay47_at s R _ _) (pay48_at s R _ _) (pay50_at s R _ _) (pay51_at _ _ _) d c

theorem tripAcc_at (k : ℕ) (hk : k + 1 < (i 2).val) (h) (X5 : Vec Ideal S1x8192x512 .bf16) (Q : Vec Ideal S2048x128 .bf16) (T : FVec Ideal S256x256 .bf16) (R : Vec Ideal S1x2048 .f32)
    (A : Vec Ideal S128x2048 .f32) (d : Fin 128) (c : Fin 2048) :
    (tripAcc (F := Ideal) i (BitVec.ofNat 32 k) h X5 X6 Q T R A (ix2 d c) : EReal)
      = A (ix2 d c) + part X6 ((i 2).val - 2 - k) (wLoop (F := Ideal) R T (zLoop i (BitVec.ofNat 32 k) h X5 Q) (absLoop i (BitVec.ofNat 32 k) h X5 Q) (softLoop i (BitVec.ofNat 32 k) h X5 Q)) d c := by
  unfold tripAcc accLoop accLoop0 accLoopTwo wLoop
  exact quarters X6 ((i 2).val - 2 - k) A _ _ _ _ _ _ _ _ _ _ _ _ _
    (read_vals X6 _ _ _ _ (off21_eq i k hk)) (read_vals X6 _ _ _ _ (off22_eq i k hk)) (read_vals X6 _ _ _ _ (off23_eq i k hk)) (read_vals X6 _ _ _ _ (off24_eq i k hk))
    (pay65_at _ _ _ _ _ _ _) (pay66_at _ _ _ _ _ _ _) (pay2_at _ _ _) (pay3_at _ _ _) d c

end Cert.KernelIdeal.Stick

end
-- ==== Proof.LoopI.lean ====
/-
  The accumulator after all blocks: for each column, the values of the keys before its query, weighted.
-/
module

public import proofs.«01_k».proof.Proof.AccI

@[expose] public section

set_option maxRecDepth 16384

noncomputable section

namespace Cert.KernelIdeal.Stick

open Cert.KernelIdeal Cert.KernelIdeal.Gen Cert.Stick
open Idealize.ShloMosaic Idealize.ShloMosaic.TcCoe Idealize.SL.Sem

variable (i : grid0.Coords) (X5 : Vec Ideal S1x8192x512 .bf16) (X6 : Vec Ideal S1x4x32x128x256 .bf16) (Q : Vec Ideal S2048x128 .bf16) (T : FVec Ideal S256x256 .bf16)
  (x : Fin 2048 → ℕ → EReal)

/-- The query of a column. -/
def qRow (i : grid0.Coords) (c : Fin 2048) : ℕ := 256 * (i 2).val + c.val % 256

/-- The end of the keys a point reads. -/
def keyEnd (i : grid0.Coords) : ℕ := 256 * (i 2).val + 256

/-- The softplus of the scores of a column. -/
def soft (c : Fin 2048) : ℕ → EReal := fun k => sp2 (score (x c) (qRow i c) k)

/-- The weighted values of the keys from `s` on. -/
def accSum (s : ℕ) (d : Fin 128) (c : Fin 2048) : EReal :=
  ∑ n ∈ Finset.Ico s (keyEnd i), valAt (α := EReal) X6 (c.val / 512) n d * weight (x c) (qRow i c) (keyEnd i) n

theorem qRow_lt (c : Fin 2048) : qRow i c < keyEnd i := by
  unfold qRow keyEnd
  omega

/-- The sums of one more block. -/
theorem accSum_block (s : ℕ) (h : s + 256 ≤ keyEnd i) (d : Fin 128) (c : Fin 2048) :
    accSum i X6 x (s + 256) d c + ∑ r : Fin 256, valAt (α := EReal) X6 (c.val / 512) (s + r.val) d * weight (x c) (qRow i c) (keyEnd i) (s + r.val) = accSum i X6 x s d c := by
  rw [sum_block (fun n => valAt (α := EReal) X6 (c.val / 512) n d * weight (x c) (qRow i c) (keyEnd i) n) s, add_comm]
  exact Finset.sum_Ico_consecutive _ (by omega) h

/-- Where the suffix is infinite, what is summed is all there is. -/
theorem accSum_spent (s : ℕ) (h : s ≤ keyEnd i) (d : Fin 128) (c : Fin 2048) (hs : tail (soft i x c) s (keyEnd i) = ⊤) : accSum i X6 x s d c = accSum i X6 x 0 d c := by
  unfold accSum
  rw [← Finset.sum_Ico_consecutive _ (Nat.zero_le s) h, Finset.sum_eq_zero (s := Finset.Ico 0 s) fun n hn => ?_, zero_add]
  rw [weight_spent (x c) (qRow i c) (keyEnd i) n s (Finset.mem_Ico.1 hn).2.le h hs, mul_zero]

section Block

variable (hT : ∀ r y : Fin 256, (T (ix2 r y) : EReal) = if r.val ≤ y.val then 1 else 0) (z : FVec Ideal S256x2048 .f32) (j : ℕ)
  (hz : ∀ (r : Fin 256) (c : Fin 2048), z (ix2 r c) = score (x c) (qRow i c) (256 * j + r.val))

include hT hz in
/-- The suffix sums of a block. -/
theorem csum_eq (r : Fin 256) (c : Fin 2048) : csum T z r c = tail (soft i x c) (256 * j + r.val) (256 * j + 256) := by
  rw [← sum_triangle (soft i x c) (256 * j) r]
  refine Finset.sum_congr rfl fun y _ => ?_
  rw [hz y c]
  exact congrArg (· * _) (hT r y)

include hz in
/-- What a block adds. -/
theorem part_eq (hj : 256 * j + 256 ≤ keyEnd i) (w : S256x2048.Idx → EReal) (s : FVec Ideal S256x2048 .f32) (R : Fin 2048 → EReal)
    (hs : ∀ (r : Fin 256) (c : Fin 2048), s (ix2 r c) = tail (soft i x c) (256 * j + r.val) (256 * j + 256))
    (hR : ∀ c, R c = tail (soft i x c) (256 * j + 256) (keyEnd i))
    (hw : ∀ (r : Fin 256) (c : Fin 2048), w (ix2 r c) = Ideal.exp2 (z (ix2 r c) - s (ix2 r c) - R c)) (d : Fin 128) (c : Fin 2048) :
    accSum i X6 x (256 * j + 256) d c + part X6 j w d c = accSum i X6 x (256 * j) d c := by
  rw [← accSum_block i X6 x (256 * j) hj d c]
  refine congrArg (_ + ·) (Finset.sum_congr rfl fun r _ => ?_)
  have hr := r.isLt
  rw [hw, hz, hs, hR]
  exact congrArg (_ * ·) (weight_block (x c) (qRow i c) (keyEnd i) _ _ (by omega) hj)

end Block

variable (hT : ∀ r y : Fin 256, (T (ix2 r y) : EReal) = if r.val ≤ y.val then 1 else 0)
  (hx : ∀ c n, n < keyEnd i → raw X5 Q c n = x c n * invLog2)

include hx in
/-- The scores of a block before the diagonal one. -/
theorem score_before (j : ℕ) (hj : j < (i 2).val) (r : Fin 256) (c : Fin 2048) : raw X5 Q c (256 * j + r.val) = score (x c) (qRow i c) (256 * j + r.val) := by
  have hr := r.isLt
  rw [hx c _ (by unfold keyEnd; omega), score, if_pos (by unfold qRow; omega)]

include hx in
theorem zM_score (r : Fin 256) (c : Fin 2048) : zM (F := Ideal) i X5 Q (ix2 r c) = score (x c) (qRow i c) (256 * (i 2).val + r.val) := by
  have hr := r.isLt
  rw [zM_at, score]
  by_cases h : r.val < c.val % 256
  · rw [if_pos h, if_pos (by unfold qRow; omega), hx c _ (by unfold keyEnd; omega)]
  · rw [if_neg h, if_neg (by unfold qRow; omega)]

include hT hx in
/-- The loop's invariant, carried through the trips still to run. -/
theorem loop_at : ∀ (n k : ℕ) (e : n + k = (i 2).val - 1) (hi : 0 < (i 2).val) (b : BitVec 1) (R : Vec Ideal S1x2048 .f32) (A : Vec Ideal S128x2048 .f32)
    (_ : ∀ c, R (ix2 0 c) = tail (soft i x c) (256 * ((i 2).val - 1 - k)) (keyEnd i))
    (_ : ∀ d c, (A (ix2 d c) : EReal) = accSum i X6 x (256 * ((i 2).val - 1 - k)) d c)
    (_ : b ≠ 1#1 → ∀ c, R (ix2 0 c) = (⊤ : EReal)) (d : Fin 128) (c : Fin 2048),
    ((loopF (F := Ideal) i X5 X6 Q T n k e b R A).2 (ix2 d c) : EReal) = accSum i X6 x 0 d c
  | 0, k, e, _, b, R, A, _, hA, _, d, c => by
    rw [loopF]
    refine (hA d c).trans ?_
    rw [show 256 * ((i 2).val - 1 - k) = 0 by omega]
  | n + 1, k, e, hi, b, R, A, hR, hA, hb, d, c => by
    rw [loopF]
    have hk : k + 1 < (i 2).val := by omega
    have hj : 256 * ((i 2).val - 1 - k) = 256 * ((i 2).val - 2 - k) + 256 := by omega
    have hj' : (i 2).val - 1 - (k + 1) = (i 2).val - 2 - k := by omega
    have hend : 256 * ((i 2).val - 2 - k) + 256 ≤ keyEnd i := by unfold keyEnd; omega
    have hz : ∀ (r : Fin 256) (c : Fin 2048), zLoop (F := Ideal) i (BitVec.ofNat 32 k) (chk_of_lt i k hk) X5 Q (ix2 r c) = score (x c) (qRow i c) (256 * ((i 2).val - 2 - k) + r.val) :=
      fun r c => (zLoop_at i X5 Q k hk _ r c).trans (score_before i X5 Q x hx _ (by omega) r c)
    have hs : ∀ (r : Fin 256) (c : Fin 2048), tripCs (F := Ideal) i (BitVec.ofNat 32 k) (chk_of_lt i k hk) X5 Q T (ix2 r c)
        = tail (soft i x c) (256 * ((i 2).val - 2 - k) + r.val) (256 * ((i 2).val - 2 - k) + 256) :=
      fun r c => (tripCs_at i _ _ X5 Q T r c).trans (csum_eq i T x hT _ _ hz r c)
    have hread : ∀ c, runRead (F := Ideal) R (ix2 0 c) = R (ix2 0 c) := fun c => read_run R inb_S1x2048_S1x2048_0_0 c
    have hsum : ∀ c, R (ix2 0 c) + tripCs (F := Ideal) i (BitVec.ofNat 32 k) (chk_of_lt i k hk) X5 Q T (ix2 0 c) = tail (soft i x c) (256 * ((i 2).val - 2 - k)) (keyEnd i) := fun c => by
      rw [hR c, hs 0 c, hj, add_comm]
      exact (tail_split _ (by omega) hend).symm
    have hR' : ∀ c, tripRun (F := Ideal) i (BitVec.ofNat 32 k) (chk_of_lt i k hk) X5 Q T R (ix2 0 c) = tail (soft i x c) (256 * ((i 2).val - 2 - k)) (keyEnd i) :=
      fun c => (runLoop_at R _ c).trans (hsum c)
    by_cases h1 : b = 1#1
    · rw [if_pos h1]
      refine loop_at n (k + 1) (by omega) hi _ _ _ (fun c => by rw [hj']; exact hR' c) (fun d c => ?_) (fun hf c => ?_) d c
      · rw [hj', tripAcc_at i X6 k hk, hA d c, hj]
        exact part_eq i X6 x _ _ hz hend _ _ (fun c => R (ix2 0 c)) hs (fun c => (hR c).trans (by rw [hj]))
          (fun r c => (wL_at T _ _ _ _ r c).trans (by rw [← hread c]; rfl)) d c
      · refine (runLoop_at R _ c).trans ?_
        rw [← hread c]
        exact tripFlag_at _ _ hf c
    · rw [if_neg h1]
      exact (hA d c).trans (accSum_spent i X6 x _ (by unfold keyEnd; omega) d c ((hR c).symm.trans (hb h1 c)))

include hT hx in
/-- The accumulator after all blocks. -/
theorem allF_at (X10 : Vec Ideal S1x2048 .f32) (X11 : Vec Ideal S128x2048 .f32) (d : Fin 128) (c : Fin 2048) :
    ((allF (F := Ideal) i X5 X6 X10 X11 Q T).2 (ix2 d c) : EReal) = accSum i X6 x 0 d c := by
  have hzD := zM_score i X5 Q x hx
  have hsD : ∀ (r : Fin 256) (c : Fin 2048), csD (F := Ideal) i X5 Q T (ix2 r c) = tail (soft i x c) (256 * (i 2).val + r.val) (256 * (i 2).val + 256) :=
    fun r c => (csD_at i X5 Q T r c).trans (csum_eq i T x hT _ _ hzD r c)
  have hAD : ∀ d c, (accD (F := Ideal) i X6 X11 (zM i X5 Q) (csD i X5 Q T) (ix2 d c) : EReal) = accSum i X6 x (256 * (i 2).val) d c := fun d c => by
    rw [accD_at, ← part_eq i X6 x _ _ hzD (le_refl _) _ _ (fun _ => 0) hsD (fun c => (tail_self _ _).symm) (fun r c => wD_at _ _ r c) d c]
    have h0 : accSum i X6 x (256 * (i 2).val + 256) d c = 0 := by
      unfold accSum keyEnd
      rw [Finset.Ico_self, Finset.sum_empty]
    rw [h0, zero_add]
  unfold allF
  by_cases hi : (i 2).val = 0
  · have hR : ∀ c, runD (F := Ideal) i (csD i X5 Q T) (ix2 0 c) = (⊤ : EReal) := fun c => by
      rw [runD_at, if_pos hi, hsD]
      exact EReal.add_top_of_ne_bot (ne_of_gt (lt_of_lt_of_le EReal.bot_lt_zero (tail_nonneg (fun k => soft_nonneg (x c) (qRow i c) k) _ _)))
    have hw : ∀ (r : Fin 256) (c : Fin 2048), k0_pay46 (F := Ideal) (runD i (csD i X5 Q T)) (k0_pay45 (zP i X5 Q) (csP i X5 Q T)) (ix2 r c) = (0 : EReal) := fun r c => by
      rw [wP_at, hR c, sub_top']
      rfl
    have h : ∀ (n : ℕ) (e : n + 0 = (i 2).val - 1) b R (A : Vec Ideal S128x2048 .f32), n = 0 → (loopF (F := Ideal) i X5 X6 Q T n 0 e b R A).2 = A := fun n e b R A hn => by
      subst hn
      rw [loopF]
    rw [h _ _ _ _ _ (by omega), accP_at, hAD, show 256 * (i 2).val = 0 by omega, part, Finset.sum_eq_zero fun r _ => by rw [hw]; exact mul_zero _, add_zero]
  · have hj : 256 * (i 2).val = 256 * ((i 2).val - 1) + 256 := by omega
    have hend : 256 * ((i 2).val - 1) + 256 ≤ keyEnd i := by unfold keyEnd; omega
    have hzP : ∀ (r : Fin 256) (c : Fin 2048), zP (F := Ideal) i X5 Q (ix2 r c) = score (x c) (qRow i c) (256 * ((i 2).val - 1) + r.val) :=
      fun r c => (zP_at i X5 Q r c).trans (score_before i X5 Q x hx _ (by omega) r c)
    have hsP : ∀ (r : Fin 256) (c : Fin 2048), csP (F := Ideal) i X5 Q T (ix2 r c) = tail (soft i x c) (256 * ((i 2).val - 1) + r.val) (256 * ((i 2).val - 1) + 256) :=
      fun r c => (csP_at i X5 Q T r c).trans (csum_eq i T x hT _ _ hzP r c)
    have hRD : ∀ c, runD (F := Ideal) i (csD i X5 Q T) (ix2 0 c) = tail (soft i x c) (256 * ((i 2).val - 1) + 256) (keyEnd i) := fun c => by
      rw [runD_at, if_neg hi, hsD, ← hj]
      exact add_zero _
    have hRP : ∀ c, runD (F := Ideal) i (csD i X5 Q T) (ix2 0 c) + csP (F := Ideal) i X5 Q T (ix2 0 c) = tail (soft i x c) (256 * ((i 2).val - 1)) (keyEnd i) := fun c => by
      rw [hRD c, hsP 0 c, add_comm]
      exact (tail_split _ (by omega) hend).symm
    refine loop_at i X5 X6 Q T x hT hx _ 0 _ (by omega) _ _ _ (fun c => (runPrev_at _ _ _ c).trans (hRP c)) (fun d c => ?_) (fun hf c => (runPrev_at _ _ _ c).trans (flagP_at _ _ hf c)) d c
    rw [accP_at, hAD d c, hj]
    exact part_eq i X6 x _ _ hzP hend _ _ (fun c => runD (F := Ideal) i (csD i X5 Q T) (ix2 0 c)) hsP hRD (fun r c => wP_at _ _ _ r c) d c

end Cert.KernelIdeal.Stick

end
-- ==== Proof.EndsI.lean ====
/-
  The two ends of a point, read at an index: the masked query rows, and the result block from the accumulator.
-/
module

public import proofs.«01_k».proof.Proof.PayI

@[expose] public section

set_option maxRecDepth 16384

noncomputable section

namespace Cert.KernelIdeal.Stick

open Cert.KernelIdeal Cert.KernelIdeal.Gen Cert.Stick
open Idealize.ShloMosaic Idealize.ShloMosaic.TcCoe Idealize.SL.Sem

/-- Choosing by a lane's word is choosing by the lane. -/
theorem select_lt (d : ℕ) (hd : d < 128) (a b : EReal) : Scalar.select (IntOp.cmpi .slt (BitVec.ofNat 32 d) 64#32) a b = if d < 64 then a else b := by
  rw [cmp_word d 64 (by omega) (by omega)]
  by_cases h : d < 64
  · rw [decide_eq_true h, if_pos h]; rfl
  · rw [decide_eq_false h, if_neg h]; rfl

theorem select_ge (d : ℕ) (hd : d < 128) (a b : EReal) : Scalar.select (IntOp.cmpi .sge (BitVec.ofNat 32 d) 64#32) a b = if d < 64 then b else a := by
  have h : IntOp.cmpi .sge (BitVec.ofNat 32 d) 64#32 = BitVec.ofBool (decide (64 ≤ d)) := by
    rw [WordCmp.cmpi_sge_of_lt (by simp; omega) (by simp)]
    simp [Nat.mod_eq_of_lt (show d < 4294967296 by omega)]
  rw [h]
  by_cases h : d < 64
  · rw [decide_eq_false (by omega), if_pos h]; rfl
  · rw [decide_eq_true (by omega), if_neg h]; rfl

/-! ## Query rows -/

section Rows

variable (v : Vec Ideal S1x256x128 .bf16) (r : Fin 256) (d : Fin 128)

theorem low_at : (k0_pay9 (F := Ideal) v (ix2 r d) : EReal) = if d.val < 64 then v (ix3 0 r d) else 0 := by
  pointwise [k0_pay9, k0_pay7, k0_pay8]
  exact select_lt d.val d.isLt _ _
theorem high_at : (k0_pay10 (F := Ideal) v (ix2 r d) : EReal) = if d.val < 64 then 0 else v (ix3 0 r d) := by
  pointwise [k0_pay10, k0_pay7, k0_pay8]
  exact select_ge d.val d.isLt _ _

end Rows

/-- The query row of a column, masked to its head's lanes. -/
def rowAt (X4 : S1x256x512.Idx → EReal) (c : Fin 2048) (d : Fin 128) : EReal :=
  if d.val < 64 ↔ c.val / 256 % 2 = 0 then X4 (ix3 0 ⟨c.val % 256, Nat.mod_lt _ (by decide)⟩ ⟨128 * (c.val / 512) + d.val, by have := c.isLt; omega⟩) else 0

/-- Storing 256 rows extends what is stored. -/
theorem rows (g : Fin 2048 → Fin 128 → EReal) (X : S2048x128.Idx → EReal) (a : ℕ) (inb) (W : S256x128.Idx → EReal) (hX : ∀ c d, c.val < a → X (ix2 c d) = g c d)
    (hW : ∀ (k : Fin 256) d (c : Fin 2048), c.val = a + k.val → W (ix2 k d) = g c d) (c : Fin 2048) (d : Fin 128) (h : c.val < a + 256) :
    upU (s := S2048x128) ![a, 0] S256x128.size inb X W (ix2 c d) = g c d := by
  by_cases h1 : a ≤ c.val
  · exact (write_rows_in X a inb W c d ⟨c.val - a, by omega⟩ (by show c.val = a + (c.val - a); omega)).trans (hW _ d c (by show c.val = a + (c.val - a); omega))
  · exact (write_rows_out X a inb W c d (by omega)).trans (hX c d (by omega))

section Pairs

variable (X4 : S1x256x512.Idx → EReal) (a l p : ℕ) (hl : l = 128 * p) (inb) (W : S256x128.Idx → EReal) (v : S1x256x128.Idx → EReal)
  (hv : (show S1x256x128.Idx → EReal from rdU (s := S1x256x512) ![0, 0, l] S1x256x128.size inb X4) = v) (k : Fin 256) (d : Fin 128) (c : Fin 2048) (hc : c.val = a + k.val)

include hl hv hc in
theorem row_low (ha : a = 512 * p) (hW : ∀ r d, W (ix2 r d) = if d.val < 64 then v (ix3 0 r d) else 0) : W (ix2 k d) = rowAt X4 c d := by
  subst hv
  have hk := k.isLt
  rw [hW, rowAt]
  by_cases h : d.val < 64
  · rw [if_pos h, if_pos (by omega), read_lanes X4 l inb k d ⟨128 * (c.val / 512) + d.val, by have := c.isLt; omega⟩ (by show 128 * (c.val / 512) + d.val = l + d.val; omega)]
    exact congrArg (fun t => X4 (ix3 0 t _)) (Fin.ext (by show k.val = c.val % 256; omega))
  · rw [if_neg h, if_neg (by omega)]

include hl hv hc in
theorem row_high (ha : a = 512 * p + 256) (hW : ∀ r d, W (ix2 r d) = if d.val < 64 then 0 else v (ix3 0 r d)) : W (ix2 k d) = rowAt X4 c d := by
  subst hv
  have hk := k.isLt
  rw [hW, rowAt]
  by_cases h : d.val < 64
  · rw [if_pos h, if_neg (by omega)]
  · rw [if_neg h, if_pos (by omega), read_lanes X4 l inb k d ⟨128 * (c.val / 512) + d.val, by have := c.isLt; omega⟩ (by show 128 * (c.val / 512) + d.val = l + d.val; omega)]
    exact congrArg (fun t => X4 (ix3 0 t _)) (Fin.ext (by show k.val = c.val % 256; omega))

end Pairs

theorem qsAll_at (X4 : Vec Ideal S1x256x512 .bf16) (X9 : Vec Ideal S2048x128 .bf16) (c : Fin 2048) (d : Fin 128) : (qsAll (F := Ideal) X4 X9 (ix2 c d) : EReal) = rowAt X4 c d := by
  unfold qsAll qsHigh qsLow
  refine rows (rowAt X4) _ 1792 _ _ (rows _ _ 1536 _ _ (rows _ _ 1280 _ _ (rows _ _ 1024 _ _ (rows _ _ 768 _ _ (rows _ _ 512 _ _ (rows _ _ 256 _ _ (rows _ _ 0 _ _ ?_ ?_) ?_) ?_) ?_) ?_) ?_) ?_) ?_ c d c.isLt
  · exact fun c d h => absurd h (Nat.not_lt_zero _)
  · exact fun k d c h => row_low X4 0 0 0 rfl _ _ _ rfl k d c h rfl (low_at _)
  · exact fun k d c h => row_high X4 256 0 0 rfl _ _ _ rfl k d c h rfl (high_at _)
  · exact fun k d c h => row_low X4 512 128 1 rfl _ _ _ rfl k d c h rfl (low_at _)
  · exact fun k d c h => row_high X4 768 128 1 rfl _ _ _ rfl k d c h rfl (high_at _)
  · exact fun k d c h => row_low X4 1024 256 2 rfl _ _ _ rfl k d c h rfl (low_at _)
  · exact fun k d c h => row_high X4 1280 256 2 rfl _ _ _ rfl k d c h rfl (high_at _)
  · exact fun k d c h => row_low X4 1536 384 3 rfl _ _ _ rfl k d c h rfl (low_at _)
  · exact fun k d c h => row_high X4 1792 384 3 rfl _ _ _ rfl k d c h rfl (high_at _)

/-! ## The result block -/

/-- An entry of the result block: the accumulator at its head's column, times the gate. -/
def gated (X7 : S1x256x512.Idx → EReal) (A : S128x2048.Idx → EReal) (r : Fin 256) (e : Fin 512) : EReal :=
  A (ix2 ⟨e.val % 128, Nat.mod_lt _ (by decide)⟩ ⟨256 * (e.val / 64) + r.val, by have := e.isLt; have := r.isLt; omega⟩) * X7 (ix3 0 r e)

/-- Storing 128 lanes extends what is stored. -/
theorem lanes (g : Fin 256 → Fin 512 → EReal) (X : S1x256x512.Idx → EReal) (a : ℕ) (inb) (W : S1x256x128.Idx → EReal) (hX : ∀ r e, e.val < a → X (ix3 0 r e) = g r e)
    (hW : ∀ r (k : Fin 128) (e : Fin 512), e.val = a + k.val → W (ix3 0 r k) = g r e) (r : Fin 256) (e : Fin 512) (h : e.val < a + 128) :
    upU (s := S1x256x512) ![0, 0, a] S1x256x128.size inb X W (ix3 0 r e) = g r e := by
  by_cases h1 : a ≤ e.val
  · exact (write_lanes_in X a inb W r e ⟨e.val - a, by omega⟩ (by show e.val = a + (e.val - a); omega)).trans (hW r _ e (by show e.val = a + (e.val - a); omega))
  · exact (write_lanes_out X a inb W r e (by omega)).trans (hX r e (by omega))

section Out

variable (a b : Vec Ideal S128x256 .f32) (v : Vec Ideal S1x256x128 .bf16) (r : Fin 256) (k : Fin 128)

theorem out57_at : (k0_pay57 (F := Ideal) (k0_pay56 a b v) (ix3 0 r k) : EReal) = (if k.val < 64 then a (ix2 k r) else b (ix2 k r)) * v (ix3 0 r k) := by
  pointwise [k0_pay57, k0_pay56, k0_pay55]
  exact Ideal.mul_congr (select_lt k.val k.isLt _ _) rfl
theorem out58_at : (k0_pay58 (F := Ideal) k0_pay55 a b v (ix3 0 r k) : EReal) = (if k.val < 64 then a (ix2 k r) else b (ix2 k r)) * v (ix3 0 r k) := by
  pointwise [k0_pay58, k0_pay55]
  exact Ideal.mul_congr (select_lt k.val k.isLt _ _) rfl
theorem out1_at : (k0_pay1 (F := Ideal) k0_pay55 a b v (ix3 0 r k) : EReal) = (if k.val < 64 then a (ix2 k r) else b (ix2 k r)) * v (ix3 0 r k) := by
  pointwise [k0_pay1, k0_pay55]
  exact Ideal.mul_congr (select_lt k.val k.isLt _ _) rfl

end Out

theorem gated_eq (X7 : S1x256x512.Idx → EReal) (A : S128x2048.Idx → EReal) (p l x y : ℕ) (hl : l = 128 * p) (hx : x = 512 * p) (hy : y = 512 * p + 256) (ia ib iv) (W : S1x256x128.Idx → EReal)
    (a b : S128x256.Idx → EReal) (v : S1x256x128.Idx → EReal)
    (ha : (show S128x256.Idx → EReal from rdU (s := S128x2048) ![0, x] S128x256.size ia A) = a)
    (hb : (show S128x256.Idx → EReal from rdU (s := S128x2048) ![0, y] S128x256.size ib A) = b)
    (hv : (show S1x256x128.Idx → EReal from rdU (s := S1x256x512) ![0, 0, l] S1x256x128.size iv X7) = v)
    (hW : ∀ r k, W (ix3 0 r k) = (if k.val < 64 then a (ix2 k r) else b (ix2 k r)) * v (ix3 0 r k)) (r : Fin 256) (k : Fin 128) (e : Fin 512) (he : e.val = l + k.val) :
    W (ix3 0 r k) = gated X7 A r e := by
  subst ha hb hv
  have hk := k.isLt
  have hr := r.isLt
  have hel := e.isLt
  rw [hW, gated, read_lanes X7 l iv r k e he]
  refine congrArg (· * _) ?_
  have hd : (⟨e.val % 128, Nat.mod_lt _ (by decide)⟩ : Fin 128) = k := Fin.ext (by show e.val % 128 = k.val; omega)
  rw [hd]
  by_cases h : k.val < 64
  · rw [if_pos h]
    exact read_half A x ia k r _ (by show 256 * (e.val / 64) + r.val = x + r.val; omega)
  · rw [if_neg h]
    exact read_half A y ib k r _ (by show 256 * (e.val / 64) + r.val = y + r.val; omega)

theorem outF_at (X7 X8 : Vec Ideal S1x256x512 .bf16) (A : Vec Ideal S128x2048 .f32) (r : Fin 256) (e : Fin 512) : (outF (F := Ideal) X7 X8 A (ix3 0 r e) : EReal) = gated X7 A r e := by
  unfold outF outAll outLow accLeft accRight outZero
  refine lanes (gated X7 A) _ 384 _ _ (lanes _ _ 256 _ _ (lanes _ _ 128 _ _ (lanes _ _ 0 _ _ ?_ ?_) ?_) ?_) ?_ r e e.isLt
  · exact fun c d h => absurd h (Nat.not_lt_zero _)
  · exact gated_eq X7 A 0 0 0 256 rfl rfl rfl _ _ _ _ _ _ _ rfl rfl rfl (out57_at _ _ _)
  · exact gated_eq X7 A 1 128 512 768 rfl rfl rfl _ _ _ _ _ _ _ rfl rfl rfl (out58_at _ _ _)
  · exact gated_eq X7 A 2 256 1024 1280 rfl rfl rfl _ _ _ _ _ _ _ rfl rfl rfl (out58_at _ _ _)
  · exact gated_eq X7 A 3 384 1536 1792 rfl rfl rfl _ _ _ _ _ _ _ rfl rfl rfl (out1_at _ _ _)

end Cert.KernelIdeal.Stick

end
-- ==== Proof.Window.lean ====
/-
  The host's running sum over the last axis from the back: entry `n` is the sum of the entries from `n` on.
-/
module

public import Idealize.ShloMosaic.Lib.Pointwise
public import Idealize.ShloMosaic.PureOps.Ideal

@[expose] public section

noncomputable section

namespace Cert.Stick

open Idealize.ShloMosaic

/-- A left fold that adds is the sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The positions of a window that is long on the last axis only. -/
def windowEquiv (N : ℕ) : (⟨4, ![1, 1, 1, N]⟩ : Shape).Idx ≃ Fin N where
  toFun w := w 3
  invFun n := ix4 (0 : Fin 1) (0 : Fin 1) (0 : Fin 1) n
  left_inv w := by
    have h : ∀ x : Fin 1, x = 0 := fun x => Subsingleton.elim _ _
    refine (?_ : ix4 (0 : Fin 1) (0 : Fin 1) (0 : Fin 1) (w 3) = w)
    refine Eq.trans ?_ (eq_ix4 w).symm
    rw [h (w 0), h (w 1), h (w 2)]
    rfl
  right_inv n := rfl

/-- A window as long as the last axis, padded behind: the sum of the entries from `n` on. -/
theorem window_sum {A B T N : ℕ} {φ : FTy} (x : FVec Ideal ⟨4, ![A, B, T, N]⟩ φ) (init : FVec Ideal ⟨0, ![]⟩ φ) (M : ℕ)
    (h : (⟨4, ![A, B, T, N]⟩ : Shape).ReduceWindows (![1, 1, 1, N] : Fin 4 → ℕ) ![1, 1, 1, 1] ![0, 0, 0, 0] ![0, 0, 0, M] ⟨4, ![A, B, T, N]⟩)
    (hu : 0 < (⟨0, ![]⟩ : Shape).numel) (hi : ∀ j, (init j : EReal) = 0) (f : ℕ → EReal) (a : Fin A) (b : Fin B) (t : Fin T) (n : Fin N)
    (hf : ∀ k : Fin N, (x (ix4 a b t k) : EReal) = f k.val) :
    (Host.reduceWindowAdd ![1, 1, 1, N] ![1, 1, 1, 1] ![0, 0, 0, 0] ![0, 0, 0, M] x init h hu (ix4 a b t n) : EReal)
      = ∑ k ∈ Finset.Ico n.val N, f k := by
  have h1 : ∀ (w : (⟨4, ![1, 1, 1, N]⟩ : Shape).Idx) (inst : Decidable (∀ i : Fin 4, (![0, 0, 0, 0] : Fin 4 → ℕ) i ≤ ((ix4 a b t n : (⟨4, ![A, B, T, N]⟩ : Shape).Idx) i).val * (![1, 1, 1, 1] : Fin 4 → ℕ) i + (w i).val
          ∧ ((ix4 a b t n : (⟨4, ![A, B, T, N]⟩ : Shape).Idx) i).val * (![1, 1, 1, 1] : Fin 4 → ℕ) i + (w i).val - (![0, 0, 0, 0] : Fin 4 → ℕ) i < (![A, B, T, N] : Fin 4 → ℕ) i)),
      @dite EReal _ inst
        (fun hin => (x fun i => ⟨((ix4 a b t n : (⟨4, ![A, B, T, N]⟩ : Shape).Idx) i).val * (![1, 1, 1, 1] : Fin 4 → ℕ) i + (w i).val - (![0, 0, 0, 0] : Fin 4 → ℕ) i, (hin i).2⟩ : EReal))
        (fun _ => (init (Shape.Idx.first hu) : EReal))
      = if n.val + (windowEquiv N w).val < N then f (n.val + (windowEquiv N w).val) else 0 := fun w _ => by
    have hw : ∀ i : Fin 4, i ≠ 3 → (w i).val = 0 := fun i hi => by
      have := (w i).isLt
      match i, hi with
      | 0, _ => exact Nat.lt_one_iff.1 this
      | 1, _ => exact Nat.lt_one_iff.1 this
      | 2, _ => exact Nat.lt_one_iff.1 this
      | 3, hi => exact absurd rfl hi
    have hw0 := hw 0 (by decide)
    have hw1 := hw 1 (by decide)
    have hw2 := hw 2 (by decide)
    have ha := a.isLt
    have hb := b.isLt
    have ht := t.isLt
    by_cases hk : n.val + (windowEquiv N w).val < N
    · have hk' : n.val + (w 3).val < N := hk
      rw [if_pos hk, dif_pos (fun i => by
        match i with
        | 0 => exact ⟨Nat.zero_le _, by show a.val * 1 + (w 0).val - 0 < A; omega⟩
        | 1 => exact ⟨Nat.zero_le _, by show b.val * 1 + (w 1).val - 0 < B; omega⟩
        | 2 => exact ⟨Nat.zero_le _, by show t.val * 1 + (w 2).val - 0 < T; omega⟩
        | 3 => exact ⟨Nat.zero_le _, by show n.val * 1 + (w 3).val - 0 < N; omega⟩)]
      refine Eq.trans (congrArg x (funext fun i => Fin.ext ?_)) (hf ⟨n.val + (w 3).val, hk'⟩)
      match i with
      | 0 => show a.val * 1 + (w 0).val - 0 = a.val; omega
      | 1 => show b.val * 1 + (w 1).val - 0 = b.val; omega
      | 2 => show t.val * 1 + (w 2).val - 0 = t.val; omega
      | 3 => show n.val * 1 + (w 3).val - 0 = n.val + (w 3).val; omega
    · rw [if_neg hk, dif_neg (fun hin => hk (by
        have := (hin 3).2
        change n.val * 1 + (w 3).val - 0 < N at this
        show n.val + (w 3).val < N
        omega))]
      exact hi _
  have h2 : (Host.reduceWindowAdd ![1, 1, 1, N] ![1, 1, 1, 1] ![0, 0, 0, 0] ![0, 0, 0, M] x init h hu (ix4 a b t n) : EReal)
      = (init (Shape.Idx.first hu) : EReal) + ∑ w : (⟨4, ![1, 1, 1, N]⟩ : Shape).Idx, if n.val + (windowEquiv N w).val < N then f (n.val + (windowEquiv N w).val) else 0 := by
    refine (foldl_add _ _ _).trans (congrArg (_ + ·) ?_)
    rw [← Fin.sum_univ_def]
    refine Eq.trans ?_ (Equiv.sum_comp (⟨4, ![1, 1, 1, N]⟩ : Shape).rowMajor.symm _)
    exact Finset.sum_congr rfl fun p _ => @h1 ((⟨4, ![1, 1, 1, N]⟩ : Shape).rowMajor.symm p) _
  rw [h2, hi, zero_add, Equiv.sum_comp (windowEquiv N) fun k : Fin N => if n.val + k.val < N then f (n.val + k.val) else 0,
    Fin.sum_univ_eq_sum_range (fun k => if n.val + k < N then f (n.val + k) else 0) N, ← Finset.sum_filter]
  rw [Finset.sum_Ico_eq_sum_range]
  refine Finset.sum_congr (Finset.ext fun k => ?_) fun _ _ => rfl
  simp only [Finset.mem_filter, Finset.mem_range]
  omega

end Cert.Stick

end
-- ==== Proof.RefI.lean ====
/-
  The reference, stage by stage, each read at an index.
-/
module

public import proofs.«01_k».proof.Proof.Gen.ReferenceIdeal.Run
public import proofs.«01_k».proof.Proof.Column
public import proofs.«01_k».proof.Proof.Window
public import Idealize.ShloMosaic.Lib.Pointwise
public import Idealize.ShloMosaic.Lib.WordCmp

@[expose] public section

set_option maxRecDepth 16384

noncomputable section

namespace Cert.ReferenceIdeal.Stick

open Cert.ReferenceIdeal Cert.ReferenceIdeal.Gen Cert.Stick
open Idealize.ShloMosaic Idealize.ShloMosaic.TcCoe Idealize.SL.Sem

section Stages

variable (q k v g : FVec Ideal S4x8192x1024 .f32)

/-- An array cut into heads. -/
def heads (x : FVec Ideal S4x8192x1024 .f32) : FVec Ideal S4x8192x16x64 .f32 := shapeCast _ x shapeCasts_S4x8192x1024_S4x8192x16x64

/-- The scores. -/
def scores : FVec Ideal S4x16x8192x8192 .f32 :=
  mulf (Host.dotGeneral dot_S4x8192x16x64_S4x8192x16x64_S4x16x8192x8192_3_3_1_1_02_02 none (heads q) (heads k)) (broadcastInDim S4x16x8192x8192 ![] bcast_S_S4x16x8192x8192 (constant S_ .f32 0x3E000000#32))

/-- Which keys come before which queries. -/
def mask : IVec S4x16x8192x8192 1 :=
  broadcastInDim S4x16x8192x8192 ![2, 3] bcast_S8192x8192_S4x16x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- Nought everywhere. -/
def zeros : FVec Ideal S4x16x8192x8192 .f32 := broadcastInDim S4x16x8192x8192 ![] bcast_S_S4x16x8192x8192 (constant S_ .f32 0x00000000#32)

/-- Minus softplus. -/
def minusSoft (y : FVec Ideal S4x16x8192x8192 .f32) : FVec Ideal S4x16x8192x8192 .f32 :=
  Host.negf (select (cmpf .une (subf y zeros) (subf y zeros)) (addf y zeros) (addf (maximumf y zeros) (Host.log1p (Host.exp (Host.negf (Host.absf (subf y zeros)))))))

/-- What each key leaves, in logarithms. -/
def leaves (z : FVec Ideal S4x16x8192x8192 .f32) : FVec Ideal S4x16x8192x8192 .f32 :=
  select mask (minusSoft (Host.negf (Host.negf z))) (broadcastInDim S4x16x8192x8192 ![] bcast_S_S4x16x8192x8192 (id (constant S_ .f32 0x00000000#32)))

/-- The running sums from the back. -/
def sums (y : FVec Ideal S4x16x8192x8192 .f32) : FVec Ideal S4x16x8192x8192 .f32 :=
  Host.reduceWindowAdd ![1, 1, 1, 8192] ![1, 1, 1, 1] ![0, 0, 0, 0] ![0, 0, 0, 8191] y (broadcastInDim S_ ![] bcast_S_S_ (constant S_ .f32 0x00000000#32)) reduceWindows_S4x16x8192x8192_S4x16x8192x8192_w1s1p0_0_w1s1p0_0_w1s1p0_0_w8192s1p0_8191 h_S_

/-- The weights. -/
def weights (z : FVec Ideal S4x16x8192x8192 .f32) : FVec Ideal S4x16x8192x8192 .f32 :=
  select mask (Host.exp (addf (minusSoft (Host.negf z)) (subf (sums (leaves z)) (leaves z)))) (broadcastInDim S4x16x8192x8192 ![] bcast_S_S4x16x8192x8192 (id (constant S_ .f32 0x00000000#32)))

/-- The weighted values, heads side by side. -/
def mixed (w : FVec Ideal S4x16x8192x8192 .f32) : FVec Ideal S4x8192x1024 .f32 :=
  shapeCast _ (transpose S4x8192x16x64 [0, 3, 1, 2] (Host.dotGeneral dot_S4x8192x16x64_S4x16x8192x8192_S4x16x64x8192_1_3_3_2_02_01 none (heads v) w) transposes_S4x16x64x8192_S4x8192x16x64_0_3_1_2) shapeCasts_S4x8192x16x64_S4x8192x1024

/-- The gate. -/
def silu : FVec Ideal S4x8192x1024 .f32 :=
  mulf g (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf g))))

/-- The whole reference. -/
def whole : FVec Ideal S4x8192x1024 .bf16 := truncf .bf16 (mulf (mixed v (weights (scores q k))) (silu g)) bitsLt_bf16_f32

theorem res_eq (m : (ℓ : Loc nD τ sig) → Buf (Elt Ideal) ℓ) (c : Dev nD) :
    Value.res_main_v26 m c = whole (m ((c : Thread nD τ).loc main_arg0)) (m ((c : Thread nD τ).loc main_arg1)) (m ((c : Thread nD τ).loc main_arg2)) (m ((c : Thread nD τ).loc main_arg3)) := rfl

end Stages

section Reads

variable (q k v g : FVec Ideal S4x8192x1024 .f32) (b : Fin 4) (h : Fin 16) (t n : Fin 8192)

/-- The score of a key for a query. -/
def dotAt (q k : FVec Ideal S4x8192x1024 .f32) (b : Fin 4) (h : Fin 16) (t n : Fin 8192) : EReal :=
  (∑ d : Fin 64, (q (ix3 b t ⟨h.val * 64 + d.val, by omega⟩) : EReal) * k (ix3 b n ⟨h.val * 64 + d.val, by omega⟩)) * Ideal.ofBits .f32 0x3E000000#32

theorem scores_at : (scores q k (ix4 b h t n) : EReal) = dotAt q k b h t n := by
  unfold dotAt
  pointwise [scores, heads]

theorem mask_at : mask (ix4 b h t n) = BitVec.ofBool (decide (n.val < t.val)) := by
  have hn := n.isLt
  have ht := t.isLt
  pointwise [mask]
  rw [WordCmp.cmpi_slt_of_lt (by simp; omega) (by simp; omega)]
  simp [Nat.mod_eq_of_lt (show n.val < 4294967296 by omega), Nat.mod_eq_of_lt (show t.val < 4294967296 by omega)]

theorem minusSoft_at (y : FVec Ideal S4x16x8192x8192 .f32) : (minusSoft y (ix4 b h t n) : EReal) = -(sp (y (ix4 b h t n))) := by
  unfold sp
  pointwise [minusSoft, zeros]
  rw [if_neg (fun h => h rfl)]
  rfl

theorem nought : (id (constant (F := Ideal) S_ .f32 0x00000000#32) ix0 : EReal) = 0 := by
  rw [id_eq]
  pointwise

theorem leaves_at (z : FVec Ideal S4x16x8192x8192 .f32) : (leaves z (ix4 b h t n) : EReal) = if n.val < t.val then -(sp (z (ix4 b h t n))) else 0 := by
  pointwise [leaves, mask_at, minusSoft_at]
  rw [neg_neg, nought]

theorem sums_at (z : FVec Ideal S4x16x8192x8192 .f32) (x : ℕ → EReal) (hx : ∀ k : Fin 8192, (z (ix4 b h t k) : EReal) = x k.val) :
    (sums (leaves z) (ix4 b h t n) : EReal) = ∑ k ∈ Finset.Ico n.val 8192, if k < t.val then -(sp (x k)) else 0 :=
  window_sum (leaves z) _ 8191 _ _ (fun j => by pointwise) _ b h t n fun k => by rw [leaves_at, hx]

theorem weights_at (z : FVec Ideal S4x16x8192x8192 .f32) (x : ℕ → EReal) (hx : ∀ k : Fin 8192, (z (ix4 b h t k) : EReal) = x k.val) :
    (weights z (ix4 b h t n) : EReal) = if n.val < t.val then
      Ideal.exp (-(sp (-(x n.val))) + ((∑ k ∈ Finset.Ico n.val 8192, if k < t.val then -(sp (x k)) else 0) - -(sp (x n.val)))) else 0 := by
  have h1 := sums_at b h t n z x hx
  have h2 := leaves_at b h t n z
  pointwise [weights, mask_at, minusSoft_at]
  rw [h1, h2, nought, hx]
  by_cases hn : n.val < t.val
  · rw [if_pos hn, if_pos hn, if_pos hn]
  · rw [if_neg hn, if_neg hn]

theorem mixed_at (w : FVec Ideal S4x16x8192x8192 .f32) (e : Fin 1024) :
    (mixed v w (ix3 b t e) : EReal) = ∑ n : Fin 8192, (v (ix3 b n e) : EReal) * w (ix4 b ⟨e.val / 64, by omega⟩ t n) := by
  pointwise [mixed, heads]

theorem silu_at (e : Fin 1024) : (silu g (ix3 b t e) : EReal) = g (ix3 b t e) * Ideal.div 1 (1 + Ideal.exp (-(g (ix3 b t e)))) := by
  pointwise [silu]

end Reads

/-! ## The whole -/

section Whole

variable (q k v g : FVec Ideal S4x8192x1024 .f32) (b : Fin 4) (t : Fin 8192)

/-- The scores of a query as a sequence over the keys. -/
def scoreSeq (h : Fin 16) : ℕ → EReal := fun n => if hn : n < 8192 then dotAt q k b h t ⟨n, hn⟩ else 0

/-- A lane of the values as a sequence over the keys. -/
def valueSeq (e : Fin 1024) : ℕ → EReal := fun n => if hn : n < 8192 then (v (ix3 b ⟨n, hn⟩ e) : EReal) else 0

/-- An entry of the reference: the weighted sum of the values up to any bound behind the query, times the gate. -/
theorem whole_at (e : Fin 1024) (h : Fin 16) (hh : h.val = e.val / 64) (N : ℕ) (h1 : t.val ≤ N) (h2 : N ≤ 8192) :
    (whole q k v g (ix3 b t e) : EReal)
      = (∑ n ∈ Finset.Ico 0 N, valueSeq v b e n * weight (scoreSeq q k b t h) t.val N n) * (g (ix3 b t e) * Ideal.div 1 (1 + Ideal.exp (-(g (ix3 b t e))))) := by
  obtain rfl : h = ⟨e.val / 64, by clear hh; omega⟩ := Fin.ext hh
  rw [← sum_ref _ _ _ _ 8192 h1 h2, Finset.sum_range]
  refine Ideal.mul_congr ((mixed_at v b t _ e).trans (Finset.sum_congr rfl fun n _ => ?_)) (silu_at g b t e)
  rw [weights_at b ⟨e.val / 64, by omega⟩ t n (scores q k) (scoreSeq q k b t ⟨e.val / 64, by omega⟩) (fun n => by rw [scores_at, scoreSeq, dif_pos n.isLt]), valueSeq, dif_pos n.isLt]

end Whole

end Cert.ReferenceIdeal.Stick

end
-- ==== Proof.FinalI.lean ====
/-
  The kernel's result array is the reference's function of the arguments.
-/
module

public import proofs.«01_k».proof.Proof.BlocksI
public import proofs.«01_k».proof.Proof.LoopI
public import proofs.«01_k».proof.Proof.EndsI
public import proofs.«01_k».proof.Proof.RefI

@[expose] public section

set_option maxRecDepth 16384

noncomputable section

namespace Cert.KernelIdeal.Stick

open Cert.KernelIdeal Cert.KernelIdeal.Gen Cert.Stick
open Idealize.ShloMosaic Idealize.ShloMosaic.TcCoe Idealize.SL.Sem
open Idealize.ShloMosaic.Pipeline (Dat)
open Cert.ReferenceIdeal.Stick (dotAt scoreSeq valueSeq whole whole_at)

/-! ## Scores -/

/-- A nonnegative finite factor distributes over a sum. -/
theorem sum_mul_factor {ι : Type} (s : Finset ι) (f : ι → EReal) (a : EReal) (h0 : 0 ≤ a) (h1 : a ≠ ⊤) : ∑ i ∈ s, f i * a = (∑ i ∈ s, f i) * a := by
  classical
  induction s using Finset.induction_on with
  | empty => rw [Finset.sum_empty, Finset.sum_empty, zero_mul]
  | insert i s hi ih => rw [Finset.sum_insert hi, Finset.sum_insert hi, ih, EReal.right_distrib_of_nonneg_of_ne_top h0 h1]

theorem eighth_eq : (Ideal.ofBits .f32 0x3E000000#32 : EReal) = ((1 / 8 : ℝ) : EReal) := by
  simp [Ideal.ofBits, Ideal.ieee]
  rw [← EReal.coe_mul]
  norm_num

theorem factor_real : ∃ r : ℝ, 0 ≤ r ∧ Ideal.ofBits .f32 0x3E000000#32 * invLog2 = (r : EReal) :=
  ⟨1 / 8 * (Real.log 2)⁻¹, mul_nonneg (by norm_num) invLog2_pos.le, by rw [eighth_eq, invLog2, ← EReal.coe_mul]⟩

/-- A sum over 128 lanes of which one half is nought. -/
theorem sum_half (P : Fin 128 → EReal) (G : Fin 64 → EReal) (o : ℕ) (ho : o < 2) (hP : ∀ (d : Fin 128) (e : Fin 64), d.val = 64 * o + e.val → P d = G e)
    (h0 : ∀ d : Fin 128, d.val / 64 ≠ o → P d = 0) : ∑ d, P d = ∑ e, G e := by
  rw [Fin.sum_univ_two_halves 64 64 rfl]
  obtain rfl | rfl : o = 0 ∨ o = 1 := by omega
  · rw [Finset.sum_eq_zero (s := Finset.univ) (f := fun k : Fin 64 => P ⟨64 + k.val, _⟩) fun k _ => h0 _ (by show (64 + k.val) / 64 ≠ 0; omega), add_zero]
    exact Finset.sum_congr rfl fun k _ => hP _ _ (by show k.val = 64 * 0 + k.val; omega)
  · rw [Finset.sum_eq_zero (s := Finset.univ) (f := fun k : Fin 64 => P ⟨k.val, _⟩) fun k _ => h0 _ (by show k.val / 64 ≠ 1; omega), zero_add]
    exact Finset.sum_congr rfl fun k _ => hP _ _ (by show 64 + k.val = 64 * 1 + k.val; omega)

variable (m : (ℓ : Loc nD τ sig) → Buf (Elt Ideal) ℓ) (c : Dev nD) (t : Fin (cfg0 (F := Ideal)).N)

/-- The batch of a point. -/
def batch : Fin 4 := ⟨(grid0.coords t 0).val, (grid_lt t).1⟩

/-- The head of a column. -/
def headOf (j : Fin 2048) : Fin 16 := ⟨8 * (grid0.coords t 1).val + j.val / 256, by have := (grid_lt t).2.1; omega⟩

/-- The query of a column. -/
def queryOf (j : Fin 2048) : Fin 8192 := ⟨qRow (grid0.coords t) j, by have := (grid_lt t).2.2; unfold qRow; omega⟩

/-- The kernel's scores are the reference's, in base two. -/
theorem raw_eq (X9 : Vec Ideal S2048x128 .bf16) (j : Fin 2048) (n : Fin 8192) :
    raw (iblk m c 2 t) (qsAll (F := Ideal) (iblk m c 1 t) X9) j n.val = dotAt (argQ m c) (argK m c) (batch t) (headOf t j) (queryOf t j) n * invLog2 := by
  obtain ⟨h0, h1, h2⟩ := grid_lt t
  obtain ⟨f, hf0, hf⟩ := factor_real
  have hj := j.isLt
  unfold raw dotAt
  rw [mul_assoc, hf, ← sum_mul_factor _ _ _ (EReal.coe_nonneg.2 hf0) (EReal.coe_ne_top _)]
  refine sum_half _ _ (j.val / 256 % 2) (Nat.mod_lt _ (by decide)) (fun d e hd => ?_) fun d hd => ?_
  · have hl : 128 * (j.val / 512) + d.val < 512 := by omega
    have ha : 64 * (8 * (grid0.coords t 1).val + j.val / 256) + e.val = 512 * (grid0.coords t 1).val + (128 * (j.val / 512) + d.val) := by omega
    have hlt : (8 * (grid0.coords t 1).val + j.val / 256) * 64 + e.val < 1024 := by omega
    refine (Ideal.mul_congr (key_at m c t n.val ⟨128 * (j.val / 512) + d.val, hl⟩ (batch t) n ⟨(headOf t j).val * 64 + e.val, hlt⟩ rfl rfl
        (by show (8 * (grid0.coords t 1).val + j.val / 256) * 64 + e.val = _; rw [mul_comm]; exact ha))
      ((qsAll_at (iblk m c 1 t) X9 j d).trans ((if_pos (by omega)).trans
        (query_at m c t ⟨j.val % 256, _⟩ ⟨128 * (j.val / 512) + d.val, hl⟩ (batch t) (queryOf t j) ⟨(headOf t j).val * 64 + e.val, hlt⟩ rfl rfl
          (by show (8 * (grid0.coords t 1).val + j.val / 256) * 64 + e.val = _; rw [mul_comm]; exact ha))))).trans ?_
    rw [hf, ← mul_assoc, mul_comm (argK m c _ : EReal)]
  · exact (Ideal.mul_congr rfl ((qsAll_at (iblk m c 1 t) X9 j d).trans (if_neg (by omega)))).trans (mul_zero _)

/-- The scores of a column, as a sequence. -/
def colScore (j : Fin 2048) : ℕ → EReal := scoreSeq (argQ m c) (argK m c) (batch t) (queryOf t j) (headOf t j)

/-- An entry of the block of a point. -/
theorem outAt_at (r : Fin 256) (e : Fin 512) (n : Fin 8192) (a : Fin 1024) (hn : n.val = 256 * (grid0.coords t 2).val + r.val) (ha : a.val = 512 * (grid0.coords t 1).val + e.val) :
    (outAt m c t (ix3 0 r e) : EReal) = whole (argQ m c) (argK m c) (argV m c) (argG m c) (ix3 (batch t) n a) := by
  obtain ⟨h0, h1, h2⟩ := grid_lt t
  have he := e.isLt
  have hr := r.isLt
  have hN : keyEnd (grid0.coords t) ≤ 8192 := by unfold keyEnd; omega
  let j : Fin 2048 := ⟨256 * (e.val / 64) + r.val, by omega⟩
  have hjr : j.val % 256 = r.val := by show (256 * (e.val / 64) + r.val) % 256 = r.val; omega
  have hje : j.val / 256 = e.val / 64 := by show (256 * (e.val / 64) + r.val) / 256 = e.val / 64; omega
  have hjp : j.val / 512 = e.val / 128 := by show (256 * (e.val / 64) + r.val) / 512 = e.val / 128; omega
  have hq : queryOf t j = n := Fin.ext (by show 256 * (grid0.coords t 2).val + j.val % 256 = n.val; omega)
  rw [whole_at _ _ _ _ (batch t) n a (headOf t j) (by show 8 * (grid0.coords t 1).val + j.val / 256 = a.val / 64; omega) (keyEnd (grid0.coords t))
    (by rw [hn]; unfold keyEnd; omega) hN]
  refine (outF_at _ _ _ r e).trans (Ideal.mul_congr ?_ (gate_at m c t r e (batch t) n a rfl hn ha))
  refine (allF_at (grid0.coords t) (iblk m c 2 t) (iblk m c 3 t) _ _ (colScore m c t) (fun r y => (triT_at (iblk m c 0 t) r y).trans (tri_at m c t r y)) (fun j n hn => ?_) _ _ _ _).trans ?_
  · have hn' : n < 8192 := hn.trans_le hN
    rw [colScore, scoreSeq, dif_pos hn']
    exact raw_eq m c t _ j ⟨n, hn'⟩
  · unfold accSum
    refine Finset.sum_congr rfl fun k hk => Ideal.mul_congr ?_ ?_
    · have hk' : k < 8192 := (Finset.mem_Ico.1 hk).2.trans_le hN
      rw [valueSeq, dif_pos hk']
      exact value_at m c t _ k ⟨e.val % 128, _⟩ (batch t) ⟨k, hk'⟩ a rfl rfl (by show j.val / 512 < 4; omega) (by show a.val = 512 * (grid0.coords t 1).val + 128 * (j.val / 512) + e.val % 128; omega)
    · show weight (scoreSeq _ _ (batch t) (queryOf t j) (headOf t j)) (queryOf t j).val _ _ = _
      rw [hq]

/-- The result array. -/
theorem final : (dats (F := Ideal) m 0 c).arrAt 5 (cfg0 (F := Ideal)).N = whole (argQ m c) (argK m c) (argV m c) (argG m c) := by
  refine (dats (F := Ideal) m 0 c).arrAt_eq_of_covers 5 _ (by decide +kernel) fun t _ y => ?_
  blk_simp
  rw [after0_5]
  obtain ⟨h0, h1, h2⟩ := grid_lt t
  obtain ⟨r, e, hy⟩ : ∃ (r : Fin 256) (e : Fin 512), (show S1x256x512.Idx from y) = ix3 0 r e :=
    ⟨y 1, y 2, (eq_ix3 _).trans (congrArg (fun z : Fin 1 => (ix3 z (y 1) (y 2) : S1x256x512.Idx)) (Subsingleton.elim _ _))⟩
  obtain rfl : y = ix3 0 r e := hy
  have he := e.isLt
  have hr := r.isLt
  refine (outAt_at m c t r e ⟨256 * (grid0.coords t 2).val + r.val, by omega⟩ ⟨512 * (grid0.coords t 1).val + e.val, by omega⟩ rfl rfl).trans (congrArg (whole (argQ m c) (argK m c) (argV m c) (argG m c)) ?_)
  unfold batch
  blk_ext [idx t]

end Cert.KernelIdeal.Stick

end
-- ==== Proof.Value.lean ====
/-
  The kernel and the reference end with equal results.
-/
module

public import proofs.«01_k».proof.Defs
public import proofs.«01_k».proof.Proof.FinalI
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem value : Cert.algebraic_KernelIdeal_ReferenceIdeal := fun m g m' g' _ hm => by
  refine ⟨fun c => (Cert.KernelIdeal.Stick.dats (F := Ideal) m 0 c).arrAt 5 (Cert.KernelIdeal.cfg0 (F := Ideal)).N,
    (θ_run Cert.KernelIdeal.defs _ _).mono (fun _ h => h.1) (Cert.KernelIdeal.Stick.run_out (F := Ideal) m g),
    (θ_run Cert.ReferenceIdeal.defs _ _).mono (fun _ h c => ?_) (Cert.ReferenceIdeal.Value.run (F := Ideal) m' g')⟩
  obtain ⟨h0, h1, h2, h3⟩ := hm c
  refine ⟨(h c).1.trans ((Cert.ReferenceIdeal.Stick.res_eq m' c).trans ?_), (h c).2⟩
  refine Eq.trans ?_ (Cert.KernelIdeal.Stick.final m c).symm
  exact congr (congr (congr (congrArg Cert.ReferenceIdeal.Stick.whole h0) h1) h2) h3

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.OutValue
public import proofs.«01_k».proof.Proof.InValue
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.OutKernel.Gen.facts, Cert.OutKernelIdeal.Gen.facts, Cert.OutReferenceIdeal.Gen.facts,
    Cert.InKernel.Gen.facts, Cert.InKernelIdeal.Gen.facts, Cert.InReferenceIdeal.Gen.facts,
    frame_kernel, frame_kernelIdeal, frame_reference, frame_outKernel, frame_outKernelIdeal, frame_outReference,
    frame_inKernel, frame_inKernelIdeal, frame_inReference, named, value, trivial, value_out, named_in, value_in⟩

end Cert.Proof

end
